-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v727) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S1024x1024 : Shape := ⟨2, ![1024, 1024]⟩
abbrev S1024x64 : Shape := ⟨2, ![1024, 64]⟩
abbrev S64x64 : Shape := ⟨2, ![64, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S128x64 : Shape := ⟨2, ![128, 64]⟩
abbrev S64x16 : Shape := ⟨2, ![64, 16]⟩
abbrev S16 : Shape := ⟨1, ![16]⟩
abbrev S_ : Shape := ⟨0, ![]⟩
abbrev S1024 : Shape := ⟨1, ![1024]⟩

class Facts : Prop where
  reducesTo_S1024x1024_S1024_d0 : S1024x1024.ReducesTo [0] S1024
  h_S_ : 0 < S_.numel
  bcast_S_S1024 : S_.BroadcastsInDim S1024 (![] : Fin 0 → Fin S1024.rank)
  bcast_S_S64 : S_.BroadcastsInDim S64 (![] : Fin 0 → Fin S64.rank)
  bcast_S_S256x128 : S_.BroadcastsInDim S256x128 (![] : Fin 0 → Fin S256x128.rank)

variable [Facts]

def fn_part1 {F : FTy → Type} [FloatOps F] (main_arg10 : FVec F S256x128 .f32) (main_v4 : IVec S1024 1) (main_v7 : IVec S64 1) (main_v10 : IVec S64 1) (main_v13 : IVec S64 1) (main_v16 : IVec S64 1) : IVec S1024 1 × IVec S64 1 × IVec S64 1 × IVec S64 1 × IVec S64 1 × IVec S256x128 1 :=
  let main_v17 : FVec F S256x128 .f32 := Host.absf main_arg10
  let main_cst_6 : FVec F S_ .f32 := constant S_ .f32 0x7F800000#32
  let main_v18 : FVec F S256x128 .f32 := broadcastInDim S256x128 ![] bcast_S_S256x128 main_cst_6
  let main_v19 : IVec S256x128 1 := cmpf .olt main_v17 main_v18
  (main_v4, main_v7, main_v10, main_v13, main_v16, main_v19)

def fn {F : FTy → Type} [FloatOps F] (main_arg0 : FVec F S1024x1024 .f32) (main_arg1 : FVec F S1024x64 .f32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S256x128 .f32) (main_arg11 : FVec F S256x64 .f32) (main_arg12 : FVec F S256 .f32) (main_arg13 : FVec F S256 .f32) (main_arg14 : FVec F S128x64 .f32) (main_arg15 : FVec F S64 .f32) (main_arg16 : FVec F S64x16 .f32) (main_arg17 : FVec F S16 .f32) : IVec S1024 1 × IVec S64 1 × IVec S64 1 × IVec S64 1 × IVec S64 1 × IVec S256x128 1 :=
  let main_cst : FVec F S_ .f32 := constant S_ .f32 0x00000000#32
  let main_v0 : FVec F S1024 .f32 := (fun x v => Host.reduceAdd x v reducesTo_S1024x1024_S1024_d0 h_S_) main_arg0 main_cst
  let main_cst_0 : FVec F S_ .f32 := constant S_ .f32 0x3F800000#32
  let main_v1 : FVec F S1024 .f32 := broadcastInDim S1024 ![] bcast_S_S1024 main_cst_0
  let main_v2 : FVec F S1024 .f32 := addf main_v0 main_v1
  let main_cst_1 : FVec F S_ .f32 := constant S_ .f32 0x00000000#32
  let main_v3 : FVec F S1024 .f32 := broadcastInDim S1024 ![] bcast_S_S1024 main_cst_1
  let main_v4 : IVec S1024 1 := cmpf .ogt main_v2 main_v3
  let main_v5 : FVec F S64 .f32 := Host.absf main_arg4
  let main_cst_2 : FVec F S_ .f32 := constant S_ .f32 0x7F800000#32
  let main_v6 : FVec F S64 .f32 := broadcastInDim S64 ![] bcast_S_S64 main_cst_2
  let main_v7 : IVec S64 1 := cmpf .olt main_v5 main_v6
  let main_v8 : FVec F S64 .f32 := Host.absf main_arg5
  let main_cst_3 : FVec F S_ .f32 := constant S_ .f32 0x7F800000#32
  let main_v9 : FVec F S64 .f32 := broadcastInDim S64 ![] bcast_S_S64 main_cst_3
  let main_v10 : IVec S64 1 := cmpf .olt main_v8 main_v9
  let main_v11 : FVec F S64 .f32 := Host.absf main_arg8
  let main_cst_4 : FVec F S_ .f32 := constant S_ .f32 0x7F800000#32
  let main_v12 : FVec F S64 .f32 := broadcastInDim S64 ![] bcast_S_S64 main_cst_4
  let main_v13 : IVec S64 1 := cmpf .olt main_v11 main_v12
  let main_v14 : FVec F S64 .f32 := Host.absf main_arg9
  let main_cst_5 : FVec F S_ .f32 := constant S_ .f32 0x7F800000#32
  let main_v15 : FVec F S64 .f32 := broadcastInDim S64 ![] bcast_S_S64 main_cst_5
  let main_v16 : IVec S64 1 := cmpf .olt main_v14 main_v15
  fn_part1 (F := F) main_arg10 main_v4 main_v7 main_v10 main_v13 main_v16
-- ==== Kernel.lean ====
abbrev S1024x1024 : Shape := ⟨2, ![1024, 1024]⟩
abbrev S1024x64 : Shape := ⟨2, ![1024, 64]⟩
abbrev S64x64 : Shape := ⟨2, ![64, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S128x64 : Shape := ⟨2, ![128, 64]⟩
abbrev S64x16 : Shape := ⟨2, ![64, 16]⟩
abbrev S16 : Shape := ⟨1, ![16]⟩
abbrev S1x16 : Shape := ⟨2, ![1, 16]⟩
abbrev S1024x1 : Shape := ⟨2, ![1024, 1]⟩
abbrev S1x64 : Shape := ⟨2, ![1, 64]⟩
abbrev S1024x256 : Shape := ⟨2, ![1024, 256]⟩
abbrev S1x256 : Shape := ⟨2, ![1, 256]⟩
abbrev S1x1024 : Shape := ⟨2, ![1, 1024]⟩
abbrev S1x1 : Shape := ⟨2, ![1, 1]⟩
abbrev S1 : Shape := ⟨1, ![1]⟩

abbrev nBuf : Space → Nat
  | .hbm => 19
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S1024x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S256x128, .f32⟩
  | .hbm, ⟨11, _⟩ => ⟨S256x64, .f32⟩
  | .hbm, ⟨12, _⟩ => ⟨S256, .f32⟩
  | .hbm, ⟨13, _⟩ => ⟨S256, .f32⟩
  | .hbm, ⟨14, _⟩ => ⟨S128x64, .f32⟩
  | .hbm, ⟨15, _⟩ => ⟨S64, .f32⟩
  | .hbm, ⟨16, _⟩ => ⟨S64x16, .f32⟩
  | .hbm, ⟨17, _⟩ => ⟨S16, .f32⟩
  | .hbm, ⟨18, _⟩ => ⟨S1x16, .f32⟩
  | .local _ .vmem, ⟨0, _⟩ => ⟨S1024x1024, .f32⟩
  | .local _ .vmem, ⟨1, _⟩ => ⟨S1024x64, .f32⟩
  | .local _ .vmem, ⟨2, _⟩ => ⟨S64x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S256x128, .f32⟩
  | .local _ .vmem, ⟨11, _⟩ => ⟨S256x64, .f32⟩
  | .local _ .vmem, ⟨12, _⟩ => ⟨S256, .f32⟩
  | .local _ .vmem, ⟨13, _⟩ => ⟨S256, .f32⟩
  | .local _ .vmem, ⟨14, _⟩ => ⟨S128x64, .f32⟩
  | .local _ .vmem, ⟨15, _⟩ => ⟨S64, .f32⟩
  | .local _ .vmem, ⟨16, _⟩ => ⟨S64x16, .f32⟩
  | .local _ .vmem, ⟨17, _⟩ => ⟨S16, .f32⟩
  | .local _ .vmem, ⟨18, _⟩ => ⟨S1x16, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S1024x1024 : Shape := ⟨2, ![1024, 1024]⟩
abbrev S1024x64 : Shape := ⟨2, ![1024, 64]⟩
abbrev S64x64 : Shape := ⟨2, ![64, 64]⟩
abbrev S64 : Shape := ⟨1, ![64]⟩
abbrev S256x128 : Shape := ⟨2, ![256, 128]⟩
abbrev S256x64 : Shape := ⟨2, ![256, 64]⟩
abbrev S256 : Shape := ⟨1, ![256]⟩
abbrev S128x64 : Shape := ⟨2, ![128, 64]⟩
abbrev S64x16 : Shape := ⟨2, ![64, 16]⟩
abbrev S16 : Shape := ⟨1, ![16]⟩
abbrev S1024 : Shape := ⟨1, ![1024]⟩
abbrev S1048576 : Shape := ⟨1, ![1048576]⟩
abbrev S1049600 : Shape := ⟨1, ![1049600]⟩
abbrev S1x1024 : Shape := ⟨2, ![1, 1024]⟩
abbrev S_ : Shape := ⟨0, ![]⟩
abbrev S1049600x1 : Shape := ⟨2, ![1049600, 1]⟩
abbrev S1049600x64 : Shape := ⟨2, ![1049600, 64]⟩
abbrev S1x64 : Shape := ⟨2, ![1, 64]⟩
abbrev S1x128 : Shape := ⟨2, ![1, 128]⟩
abbrev S128x256 : Shape := ⟨2, ![128, 256]⟩
abbrev S1x256 : Shape := ⟨2, ![1, 256]⟩
abbrev S64x256 : Shape := ⟨2, ![64, 256]⟩
abbrev S1 : Shape := ⟨1, ![1]⟩
abbrev S1024x1 : Shape := ⟨2, ![1024, 1]⟩
abbrev S1x16 : Shape := ⟨2, ![1, 16]⟩

abbrev nBuf : Space → Nat
  | .hbm => 940
  | .vmem => 0
  | .smem => 0
  | _ => 0

abbrev hbmTy0_0 (i : Nat) : BufTy := match i % 128 with
  | 0 => ⟨S1024x1024, .f32⟩
  | 1 => ⟨S1024x64, .f32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S256x128, .f32⟩
  | 11 => ⟨S256x64, .f32⟩
  | 12 => ⟨S256, .f32⟩
  | 13 => ⟨S256, .f32⟩
  | 14 => ⟨S128x64, .f32⟩
  | 15 => ⟨S64, .f32⟩
  | 16 => ⟨S64x16, .f32⟩
  | 17 => ⟨S16, .f32⟩
  | 18 => ⟨S1024, .i32⟩
  | 19 => ⟨S1024x1024, .i32⟩
  | 20 => ⟨S1048576, .i32⟩
  | 21 => ⟨S1049600, .i32⟩
  | 22 => ⟨S1x1024, .i32⟩
  | 23 => ⟨S1024x1024, .i32⟩
  | 24 => ⟨S1048576, .i32⟩
  | 25 => ⟨S1049600, .i32⟩
  | 26 => ⟨S1048576, .f32⟩
  | 27 => ⟨S_, .f32⟩
  | 28 => ⟨S1024, .f32⟩
  | 29 => ⟨S1049600, .f32⟩
  | 30 => ⟨S_, .f32⟩
  | 31 => ⟨S1024, .f32⟩
  | 32 => ⟨S_, .i32⟩
  | 33 => ⟨S1049600, .i32⟩
  | 34 => ⟨S1049600, .i1⟩
  | 35 => ⟨S_, .i32⟩
  | 36 => ⟨S1049600, .i32⟩
  | 37 => ⟨S1049600, .i32⟩
  | 38 => ⟨S1049600, .i32⟩
  | 39 => ⟨S1049600x1, .i32⟩
  | 40 => ⟨S1024, .f32⟩
  | 41 => ⟨S_, .f32⟩
  | 42 => ⟨S1024, .f32⟩
  | 43 => ⟨S1024, .i1⟩
  | 44 => ⟨S1024, .f32⟩
  | 45 => ⟨S_, .f32⟩
  | 46 => ⟨S1024, .f32⟩
  | 47 => ⟨S1024, .f32⟩
  | 48 => ⟨S_, .f32⟩
  | 49 => ⟨S_, .f32⟩
  | 50 => ⟨S1024, .f32⟩
  | 51 => ⟨S1024, .f32⟩
  | 52 => ⟨S_, .i32⟩
  | 53 => ⟨S1049600, .i32⟩
  | 54 => ⟨S1049600, .i1⟩
  | 55 => ⟨S_, .i32⟩
  | 56 => ⟨S1049600, .i32⟩
  | 57 => ⟨S1049600, .i32⟩
  | 58 => ⟨S1049600, .i32⟩
  | 59 => ⟨S1049600x1, .i32⟩
  | 60 => ⟨S1049600, .f32⟩
  | 61 => ⟨S1049600, .f32⟩
  | 62 => ⟨S_, .i32⟩
  | 63 => ⟨S1049600, .i32⟩
  | 64 => ⟨S1049600, .i1⟩
  | 65 => ⟨S_, .i32⟩
  | 66 => ⟨S1049600, .i32⟩
  | 67 => ⟨S1049600, .i32⟩
  | 68 => ⟨S1049600, .i32⟩
  | 69 => ⟨S1049600x1, .i32⟩
  | 70 => ⟨S1049600, .f32⟩
  | 71 => ⟨S1049600, .f32⟩
  | 72 => ⟨S1024x64, .f32⟩
  | 73 => ⟨S_, .f32⟩
  | 74 => ⟨S1024x64, .f32⟩
  | 75 => ⟨S1049600x1, .f32⟩
  | 76 => ⟨S_, .i32⟩
  | 77 => ⟨S1049600, .i32⟩
  | 78 => ⟨S1049600, .i1⟩
  | 79 => ⟨S_, .i32⟩
  | 80 => ⟨S1049600, .i32⟩
  | 81 => ⟨S1049600, .i32⟩
  | 82 => ⟨S1049600, .i32⟩
  | 83 => ⟨S1049600x1, .i32⟩
  | 84 => ⟨S1049600x64, .f32⟩
  | 85 => ⟨S1049600x64, .f32⟩
  | 86 => ⟨S1049600x64, .f32⟩
  | 87 => ⟨S_, .i32⟩
  | 88 => ⟨S1049600, .i32⟩
  | 89 => ⟨S1049600, .i1⟩
  | 90 => ⟨S_, .i32⟩
  | 91 => ⟨S1049600, .i32⟩
  | 92 => ⟨S1049600, .i32⟩
  | 93 => ⟨S1049600, .i32⟩
  | 94 => ⟨S1049600x1, .i32⟩
  | 95 => ⟨S1024x64, .f32⟩
  | 96 => ⟨S1x64, .f32⟩
  | 97 => ⟨S1024x64, .f32⟩
  | 98 => ⟨S1024x64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S1024x64, .f32⟩
  | 112 => ⟨S1024x64, .f32⟩
  | 113 => ⟨S1024x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S1024x1024, .f32⟩

abbrev hbmTy0_1 (i : Nat) : BufTy := match i % 128 with
  | 0 => ⟨S1024x64, .f32⟩
  | 1 => ⟨S1024x64, .f32⟩
  | 2 => ⟨S1x64, .f32⟩
  | 3 => ⟨S1024x64, .f32⟩
  | 4 => ⟨S1024x64, .f32⟩
  | 5 => ⟨S_, .f32⟩
  | 6 => ⟨S64, .f32⟩
  | 7 => ⟨S64, .f32⟩
  | 8 => ⟨S64, .f32⟩
  | 9 => ⟨S1x64, .f32⟩
  | 10 => ⟨S1024x64, .f32⟩
  | 11 => ⟨S1024x64, .f32⟩
  | 12 => ⟨S1x64, .f32⟩
  | 13 => ⟨S1024x64, .f32⟩
  | 14 => ⟨S1024x64, .f32⟩
  | 15 => ⟨S_, .f32⟩
  | 16 => ⟨S1024x64, .f32⟩
  | 17 => ⟨S1024x64, .i1⟩
  | 18 => ⟨S_, .f32⟩
  | 19 => ⟨S1024x64, .f32⟩
  | 20 => ⟨S1024x64, .f32⟩
  | 21 => ⟨S1024x64, .f32⟩
  | 22 => ⟨S_, .f32⟩
  | 23 => ⟨S1024, .f32⟩
  | 24 => ⟨S_, .i32⟩
  | 25 => ⟨S1049600, .i32⟩
  | 26 => ⟨S1049600, .i1⟩
  | 27 => ⟨S_, .i32⟩
  | 28 => ⟨S1049600, .i32⟩
  | 29 => ⟨S1049600, .i32⟩
  | 30 => ⟨S1049600, .i32⟩
  | 31 => ⟨S1049600x1, .i32⟩
  | 32 => ⟨S1024, .f32⟩
  | 33 => ⟨S_, .f32⟩
  | 34 => ⟨S1024, .f32⟩
  | 35 => ⟨S1024, .i1⟩
  | 36 => ⟨S1024, .f32⟩
  | 37 => ⟨S_, .f32⟩
  | 38 => ⟨S1024, .f32⟩
  | 39 => ⟨S1024, .f32⟩
  | 40 => ⟨S_, .f32⟩
  | 41 => ⟨S_, .f32⟩
  | 42 => ⟨S1024, .f32⟩
  | 43 => ⟨S1024, .f32⟩
  | 44 => ⟨S_, .i32⟩
  | 45 => ⟨S1049600, .i32⟩
  | 46 => ⟨S1049600, .i1⟩
  | 47 => ⟨S_, .i32⟩
  | 48 => ⟨S1049600, .i32⟩
  | 49 => ⟨S1049600, .i32⟩
  | 50 => ⟨S1049600, .i32⟩
  | 51 => ⟨S1049600x1, .i32⟩
  | 52 => ⟨S1049600, .f32⟩
  | 53 => ⟨S1049600, .f32⟩
  | 54 => ⟨S_, .i32⟩
  | 55 => ⟨S1049600, .i32⟩
  | 56 => ⟨S1049600, .i1⟩
  | 57 => ⟨S_, .i32⟩
  | 58 => ⟨S1049600, .i32⟩
  | 59 => ⟨S1049600, .i32⟩
  | 60 => ⟨S1049600, .i32⟩
  | 61 => ⟨S1049600x1, .i32⟩
  | 62 => ⟨S1049600, .f32⟩
  | 63 => ⟨S1049600, .f32⟩
  | 64 => ⟨S1024x64, .f32⟩
  | 65 => ⟨S_, .f32⟩
  | 66 => ⟨S1024x64, .f32⟩
  | 67 => ⟨S1049600x1, .f32⟩
  | 68 => ⟨S_, .i32⟩
  | 69 => ⟨S1049600, .i32⟩
  | 70 => ⟨S1049600, .i1⟩
  | 71 => ⟨S_, .i32⟩
  | 72 => ⟨S1049600, .i32⟩
  | 73 => ⟨S1049600, .i32⟩
  | 74 => ⟨S1049600, .i32⟩
  | 75 => ⟨S1049600x1, .i32⟩
  | 76 => ⟨S1049600x64, .f32⟩
  | 77 => ⟨S1049600x64, .f32⟩
  | 78 => ⟨S1049600x64, .f32⟩
  | 79 => ⟨S_, .i32⟩
  | 80 => ⟨S1049600, .i32⟩
  | 81 => ⟨S1049600, .i1⟩
  | 82 => ⟨S_, .i32⟩
  | 83 => ⟨S1049600, .i32⟩
  | 84 => ⟨S1049600, .i32⟩
  | 85 => ⟨S1049600, .i32⟩
  | 86 => ⟨S1049600x1, .i32⟩
  | 87 => ⟨S1024x64, .f32⟩
  | 88 => ⟨S1x64, .f32⟩
  | 89 => ⟨S1024x64, .f32⟩
  | 90 => ⟨S1024x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S1024x64, .f32⟩
  | 104 => ⟨S1024x64, .f32⟩
  | 105 => ⟨S1024x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S1024x64, .f32⟩
  | 121 => ⟨S1024x64, .f32⟩
  | 122 => ⟨S1x64, .f32⟩
  | 123 => ⟨S1024x64, .f32⟩
  | 124 => ⟨S1024x64, .f32⟩
  | 125 => ⟨S_, .f32⟩
  | 126 => ⟨S64, .f32⟩
  | 127 => ⟨S64, .f32⟩
  | _ => ⟨S1024x1024, .f32⟩

abbrev hbmTy0_2 (i : Nat) : BufTy := match i % 128 with
  | 0 => ⟨S64, .f32⟩
  | 1 => ⟨S1x64, .f32⟩
  | 2 => ⟨S1024x64, .f32⟩
  | 3 => ⟨S1024x64, .f32⟩
  | 4 => ⟨S1x64, .f32⟩
  | 5 => ⟨S1024x64, .f32⟩
  | 6 => ⟨S1024x64, .f32⟩
  | 7 => ⟨S1024x64, .f32⟩
  | 8 => ⟨S_, .f32⟩
  | 9 => ⟨S1024x64, .f32⟩
  | 10 => ⟨S1024x64, .i1⟩
  | 11 => ⟨S_, .f32⟩
  | 12 => ⟨S1024x64, .f32⟩
  | 13 => ⟨S1024x64, .f32⟩
  | 14 => ⟨S1024x64, .f32⟩
  | 15 => ⟨S_, .f32⟩
  | 16 => ⟨S1x64, .f32⟩
  | 17 => ⟨S_, .f32⟩
  | 18 => ⟨S1x64, .f32⟩
  | 19 => ⟨S_, .f32⟩
  | 20 => ⟨S1x128, .f32⟩
  | 21 => ⟨S128x256, .f32⟩
  | 22 => ⟨S1x256, .f32⟩
  | 23 => ⟨S64x256, .f32⟩
  | 24 => ⟨S1x256, .f32⟩
  | 25 => ⟨S1x256, .f32⟩
  | 26 => ⟨S1x256, .f32⟩
  | 27 => ⟨S1x256, .f32⟩
  | 28 => ⟨S1x256, .f32⟩
  | 29 => ⟨S1x256, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S_, .f32⟩
  | 57 => ⟨S1x64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S64, .f32⟩
  | 65 => ⟨S1024, .f32⟩
  | 66 => ⟨S_, .f32⟩
  | 67 => ⟨S_, .f32⟩
  | 68 => ⟨S_, .f32⟩
  | 69 => ⟨S_, .f32⟩
  | 70 => ⟨S1, .f32⟩
  | 71 => ⟨S1024, .f32⟩
  | 72 => ⟨S1024, .f32⟩
  | 73 => ⟨S1024, .f32⟩
  | 74 => ⟨S_, .f32⟩
  | 75 => ⟨S_, .f32⟩
  | 76 => ⟨S1, .f32⟩
  | 77 => ⟨S1024, .f32⟩
  | 78 => ⟨S1024, .f32⟩
  | 79 => ⟨S1024x1, .f32⟩
  | 80 => ⟨S1024x64, .f32⟩
  | 81 => ⟨S1024x64, .f32⟩
  | 82 => ⟨S_, .f32⟩
  | 83 => ⟨S64, .f32⟩
  | 84 => ⟨S1x64, .f32⟩
  | 85 => ⟨S1x128, .f32⟩
  | 86 => ⟨S128x256, .f32⟩
  | 87 => ⟨S1x256, .f32⟩
  | 88 => ⟨S64x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S1024x1024, .f32⟩

abbrev hbmTy0_3 (i : Nat) : BufTy := match i % 128 with
  | 0 => ⟨S1x64, .f32⟩
  | 1 => ⟨S64, .f32⟩
  | 2 => ⟨S1024, .f32⟩
  | 3 => ⟨S_, .f32⟩
  | 4 => ⟨S_, .f32⟩
  | 5 => ⟨S_, .f32⟩
  | 6 => ⟨S_, .f32⟩
  | 7 => ⟨S1, .f32⟩
  | 8 => ⟨S1024, .f32⟩
  | 9 => ⟨S1024, .f32⟩
  | 10 => ⟨S1024, .f32⟩
  | 11 => ⟨S_, .f32⟩
  | 12 => ⟨S_, .f32⟩
  | 13 => ⟨S1, .f32⟩
  | 14 => ⟨S1024, .f32⟩
  | 15 => ⟨S1024, .f32⟩
  | 16 => ⟨S1024x1, .f32⟩
  | 17 => ⟨S1024x64, .f32⟩
  | 18 => ⟨S1024x64, .f32⟩
  | 19 => ⟨S_, .f32⟩
  | 20 => ⟨S64, .f32⟩
  | 21 => ⟨S1x64, .f32⟩
  | 22 => ⟨S1x128, .f32⟩
  | 23 => ⟨S128x256, .f32⟩
  | 24 => ⟨S1x256, .f32⟩
  | 25 => ⟨S64x256, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S1x256, .f32⟩
  | 32 => ⟨S1x64, .f32⟩
  | 33 => ⟨S1x64, .f32⟩
  | 34 => ⟨S1x64, .f32⟩
  | 35 => ⟨S1x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S64, .f32⟩
  | 67 => ⟨S1024, .f32⟩
  | 68 => ⟨S_, .f32⟩
  | 69 => ⟨S_, .f32⟩
  | 70 => ⟨S_, .f32⟩
  | 71 => ⟨S_, .f32⟩
  | 72 => ⟨S1, .f32⟩
  | 73 => ⟨S1024, .f32⟩
  | 74 => ⟨S1024, .f32⟩
  | 75 => ⟨S1024, .f32⟩
  | 76 => ⟨S_, .f32⟩
  | 77 => ⟨S_, .f32⟩
  | 78 => ⟨S1, .f32⟩
  | 79 => ⟨S1024, .f32⟩
  | 80 => ⟨S1024, .f32⟩
  | 81 => ⟨S1024x1, .f32⟩
  | 82 => ⟨S1024x64, .f32⟩
  | 83 => ⟨S1024x64, .f32⟩
  | 84 => ⟨S_, .f32⟩
  | 85 => ⟨S64, .f32⟩
  | 86 => ⟨S1x64, .f32⟩
  | 87 => ⟨S1x128, .f32⟩
  | 88 => ⟨S128x256, .f32⟩
  | 89 => ⟨S1x256, .f32⟩
  | 90 => ⟨S64x256, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S1x256, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S1x64, .f32⟩
  | _ => ⟨S1024x1024, .f32⟩

abbrev hbmTy0_4 (i : Nat) : BufTy := match i % 128 with
  | 0 => ⟨S1x64, .f32⟩
  | 1 => ⟨S1x64, .f32⟩
  | 2 => ⟨S1x64, .f32⟩
  | 3 => ⟨S64, .f32⟩
  | 4 => ⟨S1024, .f32⟩
  | 5 => ⟨S_, .f32⟩
  | 6 => ⟨S_, .f32⟩
  | 7 => ⟨S_, .f32⟩
  | 8 => ⟨S_, .f32⟩
  | 9 => ⟨S1, .f32⟩
  | 10 => ⟨S1024, .f32⟩
  | 11 => ⟨S1024, .f32⟩
  | 12 => ⟨S1024, .f32⟩
  | 13 => ⟨S_, .f32⟩
  | 14 => ⟨S_, .f32⟩
  | 15 => ⟨S1, .f32⟩
  | 16 => ⟨S1024, .f32⟩
  | 17 => ⟨S1024, .f32⟩
  | 18 => ⟨S1024x1, .f32⟩
  | 19 => ⟨S1024x64, .f32⟩
  | 20 => ⟨S1024x64, .f32⟩
  | 21 => ⟨S_, .f32⟩
  | 22 => ⟨S64, .f32⟩
  | 23 => ⟨S1x64, .f32⟩
  | 24 => ⟨S1x128, .f32⟩
  | 25 => ⟨S128x256, .f32⟩
  | 26 => ⟨S1x256, .f32⟩
  | 27 => ⟨S64x256, .f32⟩
  | 28 => ⟨S1x256, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x64, .f32⟩
  | 35 => ⟨S1x64, .f32⟩
  | 36 => ⟨S1x64, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S_, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S64, .f32⟩
  | 69 => ⟨S1024, .f32⟩
  | 70 => ⟨S_, .f32⟩
  | 71 => ⟨S_, .f32⟩
  | 72 => ⟨S_, .f32⟩
  | 73 => ⟨S_, .f32⟩
  | 74 => ⟨S1, .f32⟩
  | 75 => ⟨S1024, .f32⟩
  | 76 => ⟨S1024, .f32⟩
  | 77 => ⟨S1024, .f32⟩
  | 78 => ⟨S_, .f32⟩
  | 79 => ⟨S_, .f32⟩
  | 80 => ⟨S1, .f32⟩
  | 81 => ⟨S1024, .f32⟩
  | 82 => ⟨S1024, .f32⟩
  | 83 => ⟨S1024x1, .f32⟩
  | 84 => ⟨S1024x64, .f32⟩
  | 85 => ⟨S1024x64, .f32⟩
  | 86 => ⟨S_, .f32⟩
  | 87 => ⟨S64, .f32⟩
  | 88 => ⟨S1x64, .f32⟩
  | 89 => ⟨S1x128, .f32⟩
  | 90 => ⟨S128x256, .f32⟩
  | 91 => ⟨S1x256, .f32⟩
  | 92 => ⟨S64x256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S1x64, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S1024x1024, .f32⟩

abbrev hbmTy0_5 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S64, .f32⟩
  | 6 => ⟨S1024, .f32⟩
  | 7 => ⟨S_, .f32⟩
  | 8 => ⟨S_, .f32⟩
  | 9 => ⟨S_, .f32⟩
  | 10 => ⟨S_, .f32⟩
  | 11 => ⟨S1, .f32⟩
  | 12 => ⟨S1024, .f32⟩
  | 13 => ⟨S1024, .f32⟩
  | 14 => ⟨S1024, .f32⟩
  | 15 => ⟨S_, .f32⟩
  | 16 => ⟨S_, .f32⟩
  | 17 => ⟨S1, .f32⟩
  | 18 => ⟨S1024, .f32⟩
  | 19 => ⟨S1024, .f32⟩
  | 20 => ⟨S1024x1, .f32⟩
  | 21 => ⟨S1024x64, .f32⟩
  | 22 => ⟨S1024x64, .f32⟩
  | 23 => ⟨S_, .f32⟩
  | 24 => ⟨S64, .f32⟩
  | 25 => ⟨S1x64, .f32⟩
  | 26 => ⟨S1x128, .f32⟩
  | 27 => ⟨S128x256, .f32⟩
  | 28 => ⟨S1x256, .f32⟩
  | 29 => ⟨S64x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S1x256, .f32⟩
  | 36 => ⟨S1x64, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S64, .f32⟩
  | 71 => ⟨S1024, .f32⟩
  | 72 => ⟨S_, .f32⟩
  | 73 => ⟨S_, .f32⟩
  | 74 => ⟨S_, .f32⟩
  | 75 => ⟨S_, .f32⟩
  | 76 => ⟨S1, .f32⟩
  | 77 => ⟨S1024, .f32⟩
  | 78 => ⟨S1024, .f32⟩
  | 79 => ⟨S1024, .f32⟩
  | 80 => ⟨S_, .f32⟩
  | 81 => ⟨S_, .f32⟩
  | 82 => ⟨S1, .f32⟩
  | 83 => ⟨S1024, .f32⟩
  | 84 => ⟨S1024, .f32⟩
  | 85 => ⟨S1024x1, .f32⟩
  | 86 => ⟨S1024x64, .f32⟩
  | 87 => ⟨S1024x64, .f32⟩
  | 88 => ⟨S_, .f32⟩
  | 89 => ⟨S64, .f32⟩
  | 90 => ⟨S1x64, .f32⟩
  | 91 => ⟨S1x128, .f32⟩
  | 92 => ⟨S128x256, .f32⟩
  | 93 => ⟨S1x256, .f32⟩
  | 94 => ⟨S64x256, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S1x256, .f32⟩
  | 101 => ⟨S1x64, .f32⟩
  | 102 => ⟨S1x64, .f32⟩
  | 103 => ⟨S1x64, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S_, .f32⟩
  | _ => ⟨S1024x1024, .f32⟩

abbrev hbmTy0_6 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S64, .f32⟩
  | 8 => ⟨S1024, .f32⟩
  | 9 => ⟨S_, .f32⟩
  | 10 => ⟨S_, .f32⟩
  | 11 => ⟨S_, .f32⟩
  | 12 => ⟨S_, .f32⟩
  | 13 => ⟨S1, .f32⟩
  | 14 => ⟨S1024, .f32⟩
  | 15 => ⟨S1024, .f32⟩
  | 16 => ⟨S1024, .f32⟩
  | 17 => ⟨S_, .f32⟩
  | 18 => ⟨S_, .f32⟩
  | 19 => ⟨S1, .f32⟩
  | 20 => ⟨S1024, .f32⟩
  | 21 => ⟨S1024, .f32⟩
  | 22 => ⟨S1024x1, .f32⟩
  | 23 => ⟨S1024x64, .f32⟩
  | 24 => ⟨S1024x64, .f32⟩
  | 25 => ⟨S_, .f32⟩
  | 26 => ⟨S64, .f32⟩
  | 27 => ⟨S1x64, .f32⟩
  | 28 => ⟨S1x128, .f32⟩
  | 29 => ⟨S128x256, .f32⟩
  | 30 => ⟨S1x256, .f32⟩
  | 31 => ⟨S64x256, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S1x256, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S1x64, .f32⟩
  | 72 => ⟨S64, .f32⟩
  | 73 => ⟨S1024, .f32⟩
  | 74 => ⟨S_, .f32⟩
  | 75 => ⟨S_, .f32⟩
  | 76 => ⟨S_, .f32⟩
  | 77 => ⟨S_, .f32⟩
  | 78 => ⟨S1, .f32⟩
  | 79 => ⟨S1024, .f32⟩
  | 80 => ⟨S1024, .f32⟩
  | 81 => ⟨S1024, .f32⟩
  | 82 => ⟨S_, .f32⟩
  | 83 => ⟨S_, .f32⟩
  | 84 => ⟨S1, .f32⟩
  | 85 => ⟨S1024, .f32⟩
  | 86 => ⟨S1024, .f32⟩
  | 87 => ⟨S1024x1, .f32⟩
  | 88 => ⟨S1024x64, .f32⟩
  | 89 => ⟨S1024x64, .f32⟩
  | 90 => ⟨S_, .f32⟩
  | 91 => ⟨S64, .f32⟩
  | 92 => ⟨S1x64, .f32⟩
  | 93 => ⟨S1x128, .f32⟩
  | 94 => ⟨S128x256, .f32⟩
  | 95 => ⟨S1x256, .f32⟩
  | 96 => ⟨S64x256, .f32⟩
  | 97 => ⟨S1x256, .f32⟩
  | 98 => ⟨S1x256, .f32⟩
  | 99 => ⟨S1x256, .f32⟩
  | 100 => ⟨S1x256, .f32⟩
  | 101 => ⟨S1x256, .f32⟩
  | 102 => ⟨S1x256, .f32⟩
  | 103 => ⟨S1x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S1024x1024, .f32⟩

abbrev hbmTy0_7 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S1x64, .f32⟩
  | 9 => ⟨S64, .f32⟩
  | 10 => ⟨S1024, .f32⟩
  | 11 => ⟨S_, .f32⟩
  | 12 => ⟨S_, .f32⟩
  | 13 => ⟨S_, .f32⟩
  | 14 => ⟨S_, .f32⟩
  | 15 => ⟨S1, .f32⟩
  | 16 => ⟨S1024, .f32⟩
  | 17 => ⟨S1024, .f32⟩
  | 18 => ⟨S1024, .f32⟩
  | 19 => ⟨S_, .f32⟩
  | 20 => ⟨S_, .f32⟩
  | 21 => ⟨S1, .f32⟩
  | 22 => ⟨S1024, .f32⟩
  | 23 => ⟨S1024, .f32⟩
  | 24 => ⟨S1024x1, .f32⟩
  | 25 => ⟨S1024x64, .f32⟩
  | 26 => ⟨S1024x64, .f32⟩
  | 27 => ⟨S_, .f32⟩
  | 28 => ⟨S64, .f32⟩
  | 29 => ⟨S1x64, .f32⟩
  | 30 => ⟨S1x128, .f32⟩
  | 31 => ⟨S1x64, .f32⟩
  | 32 => ⟨S1x64, .f32⟩
  | 33 => ⟨S1x64, .f32⟩
  | 34 => ⟨S_, .f32⟩
  | 35 => ⟨S1x64, .f32⟩
  | 36 => ⟨S1x64, .i1⟩
  | 37 => ⟨S_, .f32⟩
  | 38 => ⟨S1x64, .f32⟩
  | 39 => ⟨S1x64, .f32⟩
  | 40 => ⟨S1x64, .f32⟩
  | 41 => ⟨S1x16, .f32⟩
  | 42 => ⟨S1x16, .f32⟩
  | 43 => ⟨S1x16, .f32⟩
  | _ => ⟨S1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_cst_3 : Ref sig .tc := ⟨.hbm, 121, rfl⟩
abbrev main_call1_v12 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_17 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_18 : Ref sig .tc := ⟨.hbm, 143, rfl⟩
abbrev main_v82 : Ref sig .tc := ⟨.hbm, 144, rfl⟩
abbrev main_v83 : Ref sig .tc := ⟨.hbm, 145, rfl⟩
abbrev main_cst_19 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_20 : Ref sig .tc := ⟨.hbm, 150, rfl⟩
abbrev main_v87 : Ref sig .tc := ⟨.hbm, 151, rfl⟩
abbrev main_c_21 : Ref sig .tc := ⟨.hbm, 152, rfl⟩
abbrev main_v88 : Ref sig .tc := ⟨.hbm, 153, rfl⟩
abbrev main_v89 : Ref sig .tc := ⟨.hbm, 154, rfl⟩
abbrev main_c_22 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_23 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_24 : Ref sig .tc := ⟨.hbm, 165, rfl⟩
abbrev main_v98 : Ref sig .tc := ⟨.hbm, 166, rfl⟩
abbrev main_v99 : Ref sig .tc := ⟨.hbm, 167, rfl⟩
abbrev main_cst_25 : Ref sig .tc := ⟨.hbm, 168, rfl⟩
abbrev main_call3_v0 : Ref sig .tc := ⟨.hbm, 169, rfl⟩
abbrev main_call3_v1 : Ref sig .tc := ⟨.hbm, 170, rfl⟩
abbrev main_v100 : Ref sig .tc := ⟨.hbm, 171, rfl⟩
abbrev main_c_26 : Ref sig .tc := ⟨.hbm, 172, rfl⟩
abbrev main_v101 : Ref sig .tc := ⟨.hbm, 173, rfl⟩
abbrev main_v102 : Ref sig .tc := ⟨.hbm, 174, rfl⟩
abbrev main_c_27 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_c_28 : Ref sig .tc := ⟨.hbm, 182, rfl⟩
abbrev main_v109 : Ref sig .tc := ⟨.hbm, 183, rfl⟩
abbrev main_v110 : Ref sig .tc := ⟨.hbm, 184, rfl⟩
abbrev main_c_29 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_cst_30 : Ref sig .tc := ⟨.hbm, 193, rfl⟩
abbrev main_v118 : Ref sig .tc := ⟨.hbm, 194, rfl⟩
abbrev main_v119 : Ref sig .tc := ⟨.hbm, 195, rfl⟩
abbrev main_c_31 : Ref sig .tc := ⟨.hbm, 196, rfl⟩
abbrev main_v120 : Ref sig .tc := ⟨.hbm, 197, rfl⟩
abbrev main_v121 : Ref sig .tc := ⟨.hbm, 198, rfl⟩
abbrev main_c_32 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_c_33 : Ref sig .tc := ⟨.hbm, 207, rfl⟩
abbrev main_v129 : Ref sig .tc := ⟨.hbm, 208, rfl⟩
abbrev main_v130 : Ref sig .tc := ⟨.hbm, 209, rfl⟩
abbrev main_c_34 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_35 : Ref sig .tc := ⟨.hbm, 219, rfl⟩
abbrev main_v139 : Ref sig .tc := ⟨.hbm, 220, rfl⟩
abbrev main_cst_36 : Ref sig .tc := ⟨.hbm, 221, rfl⟩
abbrev main_v140 : Ref sig .tc := ⟨.hbm, 222, rfl⟩
abbrev main_v141 : Ref sig .tc := ⟨.hbm, 223, rfl⟩
abbrev main_c_37 : Ref sig .tc := ⟨.hbm, 224, rfl⟩
abbrev main_call4_cst : Ref sig .tc := ⟨.hbm, 225, rfl⟩
abbrev main_call4_v0 : Ref sig .tc := ⟨.hbm, 226, rfl⟩
abbrev main_call4_v1 : Ref sig .tc := ⟨.hbm, 227, rfl⟩
abbrev main_call4_cst_0 : Ref sig .tc := ⟨.hbm, 228, rfl⟩
abbrev main_call4_v2 : Ref sig .tc := ⟨.hbm, 229, rfl⟩
abbrev main_call4_v3 : Ref sig .tc := ⟨.hbm, 230, rfl⟩
abbrev main_call4_v4 : Ref sig .tc := ⟨.hbm, 231, rfl⟩
abbrev main_call4_v5 : Ref sig .tc := ⟨.hbm, 232, rfl⟩
abbrev main_call4_v6 : Ref sig .tc := ⟨.hbm, 233, rfl⟩
abbrev main_call4_v7 : Ref sig .tc := ⟨.hbm, 234, rfl⟩
abbrev main_call4_cst_1 : Ref sig .tc := ⟨.hbm, 235, rfl⟩
abbrev main_call4_v8 : Ref sig .tc := ⟨.hbm, 236, rfl⟩
abbrev main_call4_cst_2 : Ref sig .tc := ⟨.hbm, 237, rfl⟩
abbrev main_call4_v9 : Ref sig .tc := ⟨.hbm, 238, rfl⟩
abbrev main_call4_v10 : Ref sig .tc := ⟨.hbm, 239, rfl⟩
abbrev main_call4_v11 : Ref sig .tc := ⟨.hbm, 240, rfl⟩
abbrev main_call4_cst_3 : Ref sig .tc := ⟨.hbm, 241, rfl⟩
abbrev main_call4_v12 : Ref sig .tc := ⟨.hbm, 242, rfl⟩
abbrev main_call4_cst_4 : Ref sig .tc := ⟨.hbm, 243, rfl⟩
abbrev main_call4_call0_v0 : Ref sig .tc := ⟨.hbm, 244, rfl⟩
abbrev main_call4_call0_v1 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_38 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_cst_39 : Ref sig .tc := ⟨.hbm, 264, rfl⟩
abbrev main_v159 : Ref sig .tc := ⟨.hbm, 265, rfl⟩
abbrev main_v160 : Ref sig .tc := ⟨.hbm, 266, rfl⟩
abbrev main_cst_40 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_cst_41 : Ref sig .tc := ⟨.hbm, 271, rfl⟩
abbrev main_v164 : Ref sig .tc := ⟨.hbm, 272, rfl⟩
abbrev main_cst_42 : Ref sig .tc := ⟨.hbm, 273, rfl⟩
abbrev main_v165 : Ref sig .tc := ⟨.hbm, 274, rfl⟩
abbrev main_cst_43 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_cst_44 : Ref sig .tc := ⟨.hbm, 292, rfl⟩
abbrev main_v182 : Ref sig .tc := ⟨.hbm, 293, rfl⟩
abbrev main_v183 : Ref sig .tc := ⟨.hbm, 294, rfl⟩
abbrev main_cst_45 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_cst_46 : Ref sig .tc := ⟨.hbm, 300, rfl⟩
abbrev main_v188 : Ref sig .tc := ⟨.hbm, 301, rfl⟩
abbrev main_v189 : Ref sig .tc := ⟨.hbm, 302, rfl⟩
abbrev main_cst_47 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_cst_48 : Ref sig .tc := ⟨.hbm, 309, rfl⟩
abbrev main_v195 : Ref sig .tc := ⟨.hbm, 310, rfl⟩
abbrev main_v196 : Ref sig .tc := ⟨.hbm, 311, rfl⟩
abbrev main_cst_49 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_cst_50 : Ref sig .tc := ⟨.hbm, 322, rfl⟩
abbrev main_v206 : Ref sig .tc := ⟨.hbm, 323, rfl⟩
abbrev main_cst_51 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_cst_52 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_cst_53 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_cst_54 : Ref sig .tc := ⟨.hbm, 357, rfl⟩
abbrev main_v237 : Ref sig .tc := ⟨.hbm, 358, rfl⟩
abbrev main_v238 : Ref sig .tc := ⟨.hbm, 359, rfl⟩
abbrev main_cst_55 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_cst_56 : Ref sig .tc := ⟨.hbm, 365, rfl⟩
abbrev main_v243 : Ref sig .tc := ⟨.hbm, 366, rfl⟩
abbrev main_v244 : Ref sig .tc := ⟨.hbm, 367, rfl⟩
abbrev main_cst_57 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_cst_58 : Ref sig .tc := ⟨.hbm, 374, rfl⟩
abbrev main_v250 : Ref sig .tc := ⟨.hbm, 375, rfl⟩
abbrev main_v251 : Ref sig .tc := ⟨.hbm, 376, rfl⟩
abbrev main_cst_59 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_v260 : Ref sig .tc := ⟨.hbm, 386, rfl⟩
abbrev main_cst_60 : Ref sig .tc := ⟨.hbm, 387, rfl⟩
abbrev main_v261 : Ref sig .tc := ⟨.hbm, 388, rfl⟩
abbrev main_cst_61 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_cst_62 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_cst_63 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_cst_64 : Ref sig .tc := ⟨.hbm, 422, rfl⟩
abbrev main_v292 : Ref sig .tc := ⟨.hbm, 423, rfl⟩
abbrev main_v293 : Ref sig .tc := ⟨.hbm, 424, rfl⟩
abbrev main_cst_65 : Ref sig .tc := ⟨.hbm, 425, rfl⟩
abbrev main_v294 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_cst_66 : Ref sig .tc := ⟨.hbm, 430, rfl⟩
abbrev main_v298 : Ref sig .tc := ⟨.hbm, 431, rfl⟩
abbrev main_v299 : Ref sig .tc := ⟨.hbm, 432, rfl⟩
abbrev main_cst_67 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_cst_68 : Ref sig .tc := ⟨.hbm, 439, rfl⟩
abbrev main_v305 : Ref sig .tc := ⟨.hbm, 440, rfl⟩
abbrev main_v306 : Ref sig .tc := ⟨.hbm, 441, rfl⟩
abbrev main_cst_69 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_cst_70 : Ref sig .tc := ⟨.hbm, 452, rfl⟩
abbrev main_v316 : Ref sig .tc := ⟨.hbm, 453, rfl⟩
abbrev main_cst_71 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_cst_72 : Ref sig .tc := ⟨.hbm, 460, rfl⟩
abbrev main_v322 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_v326 : Ref sig .tc := ⟨.hbm, 465, rfl⟩
abbrev main_v327 : Ref sig .tc := ⟨.hbm, 466, rfl⟩
abbrev main_v328 : Ref sig .tc := ⟨.hbm, 467, rfl⟩
abbrev main_cst_73 : Ref sig .tc := ⟨.hbm, 468, rfl⟩
abbrev main_v329 : Ref sig .tc := ⟨.hbm, 469, rfl⟩
abbrev main_v330 : Ref sig .tc := ⟨.hbm, 470, rfl⟩
abbrev main_v331 : Ref sig .tc := ⟨.hbm, 471, rfl⟩
abbrev main_v332 : Ref sig .tc := ⟨.hbm, 472, rfl⟩
abbrev main_v333 : Ref sig .tc := ⟨.hbm, 473, rfl⟩
abbrev main_v334 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_v338 : Ref sig .tc := ⟨.hbm, 478, rfl⟩
abbrev main_v339 : Ref sig .tc := ⟨.hbm, 479, rfl⟩
abbrev main_v340 : Ref sig .tc := ⟨.hbm, 480, rfl⟩
abbrev main_v341 : Ref sig .tc := ⟨.hbm, 481, rfl⟩
abbrev main_v342 : Ref sig .tc := ⟨.hbm, 482, rfl⟩
abbrev main_v343 : Ref sig .tc := ⟨.hbm, 483, rfl⟩
abbrev main_v344 : Ref sig .tc := ⟨.hbm, 484, rfl⟩
abbrev main_v345 : Ref sig .tc := ⟨.hbm, 485, rfl⟩
abbrev main_v346 : Ref sig .tc := ⟨.hbm, 486, rfl⟩
abbrev main_cst_74 : Ref sig .tc := ⟨.hbm, 487, rfl⟩
abbrev main_v347 : Ref sig .tc := ⟨.hbm, 488, rfl⟩
abbrev main_v348 : Ref sig .tc := ⟨.hbm, 489, rfl⟩
abbrev main_cst_75 : Ref sig .tc := ⟨.hbm, 490, rfl⟩
abbrev main_v349 : Ref sig .tc := ⟨.hbm, 491, rfl⟩
abbrev main_v350 : Ref sig .tc := ⟨.hbm, 492, rfl⟩
abbrev main_v351 : Ref sig .tc := ⟨.hbm, 493, rfl⟩
abbrev main_v352 : Ref sig .tc := ⟨.hbm, 494, rfl⟩
abbrev main_cst_76 : Ref sig .tc := ⟨.hbm, 495, rfl⟩
abbrev main_v353 : Ref sig .tc := ⟨.hbm, 496, rfl⟩
abbrev main_v354 : Ref sig .tc := ⟨.hbm, 497, rfl⟩
abbrev main_cst_77 : Ref sig .tc := ⟨.hbm, 498, rfl⟩
abbrev main_v355 : Ref sig .tc := ⟨.hbm, 499, rfl⟩
abbrev main_v356 : Ref sig .tc := ⟨.hbm, 500, rfl⟩
abbrev main_v357 : Ref sig .tc := ⟨.hbm, 501, rfl⟩
abbrev main_v358 : Ref sig .tc := ⟨.hbm, 502, rfl⟩
abbrev main_v359 : Ref sig .tc := ⟨.hbm, 503, rfl⟩
abbrev main_cst_78 : Ref sig .tc := ⟨.hbm, 504, rfl⟩
abbrev main_v360 : Ref sig .tc := ⟨.hbm, 505, rfl⟩
abbrev main_v361 : Ref sig .tc := ⟨.hbm, 506, rfl⟩
abbrev main_cst_79 : Ref sig .tc := ⟨.hbm, 507, rfl⟩
abbrev main_v362 : Ref sig .tc := ⟨.hbm, 508, rfl⟩
abbrev main_v363 : Ref sig .tc := ⟨.hbm, 509, rfl⟩
abbrev main_v364 : Ref sig .tc := ⟨.hbm, 510, rfl⟩
abbrev main_v365 : Ref sig .tc := ⟨.hbm, 511, rfl⟩
abbrev main_v366 : Ref sig .tc := ⟨.hbm, 512, rfl⟩
abbrev main_v367 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_cst_80 : Ref sig .tc := ⟨.hbm, 517, rfl⟩
abbrev main_v371 : Ref sig .tc := ⟨.hbm, 518, rfl⟩
abbrev main_cst_81 : Ref sig .tc := ⟨.hbm, 519, rfl⟩
abbrev main_v372 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev main_cst_82 : Ref sig .tc := ⟨.hbm, 525, rfl⟩
abbrev main_v377 : Ref sig .tc := ⟨.hbm, 526, rfl⟩
abbrev main_v378 : Ref sig .tc := ⟨.hbm, 527, rfl⟩
abbrev main_v379 : Ref sig .tc := ⟨.hbm, 528, rfl⟩
abbrev main_v380 : Ref sig .tc := ⟨.hbm, 529, rfl⟩
abbrev main_v381 : Ref sig .tc := ⟨.hbm, 530, rfl⟩
abbrev main_v382 : Ref sig .tc := ⟨.hbm, 531, rfl⟩
abbrev main_v383 : Ref sig .tc := ⟨.hbm, 532, rfl⟩
abbrev main_cst_83 : Ref sig .tc := ⟨.hbm, 533, rfl⟩
abbrev main_v384 : Ref sig .tc := ⟨.hbm, 534, rfl⟩
abbrev main_v385 : Ref sig .tc := ⟨.hbm, 535, rfl⟩
abbrev main_v386 : Ref sig .tc := ⟨.hbm, 536, rfl⟩
abbrev main_v387 : Ref sig .tc := ⟨.hbm, 537, rfl⟩
abbrev main_v388 : Ref sig .tc := ⟨.hbm, 538, rfl⟩
abbrev main_v389 : Ref sig .tc := ⟨.hbm, 539, rfl⟩
abbrev main_v390 : Ref sig .tc := ⟨.hbm, 540, rfl⟩
abbrev main_v391 : Ref sig .tc := ⟨.hbm, 541, rfl⟩
abbrev main_v392 : Ref sig .tc := ⟨.hbm, 542, rfl⟩
abbrev main_v393 : Ref sig .tc := ⟨.hbm, 543, rfl⟩
abbrev main_v394 : Ref sig .tc := ⟨.hbm, 544, rfl⟩
abbrev main_v395 : Ref sig .tc := ⟨.hbm, 545, rfl⟩
abbrev main_v396 : Ref sig .tc := ⟨.hbm, 546, rfl⟩
abbrev main_v397 : Ref sig .tc := ⟨.hbm, 547, rfl⟩
abbrev main_v398 : Ref sig .tc := ⟨.hbm, 548, rfl⟩
abbrev main_v399 : Ref sig .tc := ⟨.hbm, 549, rfl⟩
abbrev main_v400 : Ref sig .tc := ⟨.hbm, 550, rfl⟩
abbrev main_v401 : Ref sig .tc := ⟨.hbm, 551, rfl⟩
abbrev main_cst_84 : Ref sig .tc := ⟨.hbm, 552, rfl⟩
abbrev main_v402 : Ref sig .tc := ⟨.hbm, 553, rfl⟩
abbrev main_v403 : Ref sig .tc := ⟨.hbm, 554, rfl⟩
abbrev main_cst_85 : Ref sig .tc := ⟨.hbm, 555, rfl⟩
abbrev main_v404 : Ref sig .tc := ⟨.hbm, 556, rfl⟩
abbrev main_v405 : Ref sig .tc := ⟨.hbm, 557, rfl⟩
abbrev main_v406 : Ref sig .tc := ⟨.hbm, 558, rfl⟩
abbrev main_v407 : Ref sig .tc := ⟨.hbm, 559, rfl⟩
abbrev main_cst_86 : Ref sig .tc := ⟨.hbm, 560, rfl⟩
abbrev main_v408 : Ref sig .tc := ⟨.hbm, 561, rfl⟩
abbrev main_v409 : Ref sig .tc := ⟨.hbm, 562, rfl⟩
abbrev main_cst_87 : Ref sig .tc := ⟨.hbm, 563, rfl⟩
abbrev main_v410 : Ref sig .tc := ⟨.hbm, 564, rfl⟩
abbrev main_v411 : Ref sig .tc := ⟨.hbm, 565, rfl⟩
abbrev main_v412 : Ref sig .tc := ⟨.hbm, 566, rfl⟩
abbrev main_v413 : Ref sig .tc := ⟨.hbm, 567, rfl⟩
abbrev main_v414 : Ref sig .tc := ⟨.hbm, 568, rfl⟩
abbrev main_cst_88 : Ref sig .tc := ⟨.hbm, 569, rfl⟩
abbrev main_v415 : Ref sig .tc := ⟨.hbm, 570, rfl⟩
abbrev main_v416 : Ref sig .tc := ⟨.hbm, 571, rfl⟩
abbrev main_cst_89 : Ref sig .tc := ⟨.hbm, 572, rfl⟩
abbrev main_v417 : Ref sig .tc := ⟨.hbm, 573, rfl⟩
abbrev main_v418 : Ref sig .tc := ⟨.hbm, 574, rfl⟩
abbrev main_v419 : Ref sig .tc := ⟨.hbm, 575, rfl⟩
abbrev main_v420 : Ref sig .tc := ⟨.hbm, 576, rfl⟩
abbrev main_v421 : Ref sig .tc := ⟨.hbm, 577, rfl⟩
abbrev main_v422 : Ref sig .tc := ⟨.hbm, 578, rfl⟩
abbrev main_v423 : Ref sig .tc := ⟨.hbm, 579, rfl⟩
abbrev main_v424 : Ref sig .tc := ⟨.hbm, 580, rfl⟩
abbrev main_v425 : Ref sig .tc := ⟨.hbm, 581, rfl⟩
abbrev main_cst_90 : Ref sig .tc := ⟨.hbm, 582, rfl⟩
abbrev main_v426 : Ref sig .tc := ⟨.hbm, 583, rfl⟩
abbrev main_cst_91 : Ref sig .tc := ⟨.hbm, 584, rfl⟩
abbrev main_v427 : Ref sig .tc := ⟨.hbm, 585, rfl⟩
abbrev main_v428 : Ref sig .tc := ⟨.hbm, 586, rfl⟩
abbrev main_v429 : Ref sig .tc := ⟨.hbm, 587, rfl⟩
abbrev main_v430 : Ref sig .tc := ⟨.hbm, 588, rfl⟩
abbrev main_v431 : Ref sig .tc := ⟨.hbm, 589, rfl⟩
abbrev main_cst_92 : Ref sig .tc := ⟨.hbm, 590, rfl⟩
abbrev main_v432 : Ref sig .tc := ⟨.hbm, 591, rfl⟩
abbrev main_v433 : Ref sig .tc := ⟨.hbm, 592, rfl⟩
abbrev main_v434 : Ref sig .tc := ⟨.hbm, 593, rfl⟩
abbrev main_v435 : Ref sig .tc := ⟨.hbm, 594, rfl⟩
abbrev main_v436 : Ref sig .tc := ⟨.hbm, 595, rfl⟩
abbrev main_v437 : Ref sig .tc := ⟨.hbm, 596, rfl⟩
abbrev main_v438 : Ref sig .tc := ⟨.hbm, 597, rfl⟩
abbrev main_cst_93 : Ref sig .tc := ⟨.hbm, 598, rfl⟩
abbrev main_v439 : Ref sig .tc := ⟨.hbm, 599, rfl⟩
abbrev main_v440 : Ref sig .tc := ⟨.hbm, 600, rfl⟩
abbrev main_v441 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_v446 : Ref sig .tc := ⟨.hbm, 606, rfl⟩
abbrev main_v447 : Ref sig .tc := ⟨.hbm, 607, rfl⟩
abbrev main_v448 : Ref sig .tc := ⟨.hbm, 608, rfl⟩
abbrev main_v449 : Ref sig .tc := ⟨.hbm, 609, rfl⟩
abbrev main_v450 : Ref sig .tc := ⟨.hbm, 610, rfl⟩
abbrev main_v451 : Ref sig .tc := ⟨.hbm, 611, rfl⟩
abbrev main_v452 : Ref sig .tc := ⟨.hbm, 612, rfl⟩
abbrev main_v453 : Ref sig .tc := ⟨.hbm, 613, rfl⟩
abbrev main_v454 : Ref sig .tc := ⟨.hbm, 614, rfl⟩
abbrev main_v455 : Ref sig .tc := ⟨.hbm, 615, rfl⟩
abbrev main_v456 : Ref sig .tc := ⟨.hbm, 616, rfl⟩
abbrev main_cst_94 : Ref sig .tc := ⟨.hbm, 617, rfl⟩
abbrev main_v457 : Ref sig .tc := ⟨.hbm, 618, rfl⟩
abbrev main_v458 : Ref sig .tc := ⟨.hbm, 619, rfl⟩
abbrev main_cst_95 : Ref sig .tc := ⟨.hbm, 620, rfl⟩
abbrev main_v459 : Ref sig .tc := ⟨.hbm, 621, rfl⟩
abbrev main_v460 : Ref sig .tc := ⟨.hbm, 622, rfl⟩
abbrev main_v461 : Ref sig .tc := ⟨.hbm, 623, rfl⟩
abbrev main_v462 : Ref sig .tc := ⟨.hbm, 624, rfl⟩
abbrev main_cst_96 : Ref sig .tc := ⟨.hbm, 625, rfl⟩
abbrev main_v463 : Ref sig .tc := ⟨.hbm, 626, rfl⟩
abbrev main_v464 : Ref sig .tc := ⟨.hbm, 627, rfl⟩
abbrev main_cst_97 : Ref sig .tc := ⟨.hbm, 628, rfl⟩
abbrev main_v465 : Ref sig .tc := ⟨.hbm, 629, rfl⟩
abbrev main_v466 : Ref sig .tc := ⟨.hbm, 630, rfl⟩
abbrev main_v467 : Ref sig .tc := ⟨.hbm, 631, rfl⟩
abbrev main_v468 : Ref sig .tc := ⟨.hbm, 632, rfl⟩
abbrev main_v469 : Ref sig .tc := ⟨.hbm, 633, rfl⟩
abbrev main_cst_98 : Ref sig .tc := ⟨.hbm, 634, rfl⟩
abbrev main_v470 : Ref sig .tc := ⟨.hbm, 635, rfl⟩
abbrev main_v471 : Ref sig .tc := ⟨.hbm, 636, rfl⟩
abbrev main_cst_99 : Ref sig .tc := ⟨.hbm, 637, rfl⟩
abbrev main_v472 : Ref sig .tc := ⟨.hbm, 638, rfl⟩
abbrev main_v473 : Ref sig .tc := ⟨.hbm, 639, rfl⟩
abbrev main_v474 : Ref sig .tc := ⟨.hbm, 640, rfl⟩
abbrev main_v475 : Ref sig .tc := ⟨.hbm, 641, rfl⟩
abbrev main_v476 : Ref sig .tc := ⟨.hbm, 642, rfl⟩
abbrev main_v477 : Ref sig .tc := ⟨.hbm, 643, rfl⟩
abbrev main_v478 : Ref sig .tc := ⟨.hbm, 644, rfl⟩
abbrev main_v479 : Ref sig .tc := ⟨.hbm, 645, rfl⟩
abbrev main_v480 : Ref sig .tc := ⟨.hbm, 646, rfl⟩
abbrev main_cst_100 : Ref sig .tc := ⟨.hbm, 647, rfl⟩
abbrev main_v481 : Ref sig .tc := ⟨.hbm, 648, rfl⟩
abbrev main_cst_101 : Ref sig .tc := ⟨.hbm, 649, rfl⟩
abbrev main_v482 : Ref sig .tc := ⟨.hbm, 650, rfl⟩
abbrev main_v483 : Ref sig .tc := ⟨.hbm, 651, rfl⟩
abbrev main_v484 : Ref sig .tc := ⟨.hbm, 652, rfl⟩
abbrev main_v485 : Ref sig .tc := ⟨.hbm, 653, rfl⟩
abbrev main_v486 : Ref sig .tc := ⟨.hbm, 654, rfl⟩
abbrev main_cst_102 : Ref sig .tc := ⟨.hbm, 655, rfl⟩
abbrev main_v487 : Ref sig .tc := ⟨.hbm, 656, rfl⟩
abbrev main_v488 : Ref sig .tc := ⟨.hbm, 657, rfl⟩
abbrev main_v489 : Ref sig .tc := ⟨.hbm, 658, rfl⟩
abbrev main_v490 : Ref sig .tc := ⟨.hbm, 659, rfl⟩
abbrev main_v491 : Ref sig .tc := ⟨.hbm, 660, rfl⟩
abbrev main_v492 : Ref sig .tc := ⟨.hbm, 661, rfl⟩
abbrev main_v493 : Ref sig .tc := ⟨.hbm, 662, rfl⟩
abbrev main_cst_103 : Ref sig .tc := ⟨.hbm, 663, rfl⟩
abbrev main_v494 : Ref sig .tc := ⟨.hbm, 664, rfl⟩
abbrev main_v495 : Ref sig .tc := ⟨.hbm, 665, rfl⟩
abbrev main_v496 : Ref sig .tc := ⟨.hbm, 666, rfl⟩
abbrev main_v497 : Ref sig .tc := ⟨.hbm, 667, rfl⟩
abbrev main_v498 : Ref sig .tc := ⟨.hbm, 668, rfl⟩
abbrev main_v499 : Ref sig .tc := ⟨.hbm, 669, rfl⟩
abbrev main_v500 : Ref sig .tc := ⟨.hbm, 670, rfl⟩
abbrev main_v501 : Ref sig .tc := ⟨.hbm, 671, rfl⟩
abbrev main_v502 : Ref sig .tc := ⟨.hbm, 672, rfl⟩
abbrev main_v503 : Ref sig .tc := ⟨.hbm, 673, rfl⟩
abbrev main_v504 : Ref sig .tc := ⟨.hbm, 674, rfl⟩
abbrev main_v505 : Ref sig .tc := ⟨.hbm, 675, rfl⟩
abbrev main_v506 : Ref sig .tc := ⟨.hbm, 676, rfl⟩
abbrev main_v507 : Ref sig .tc := ⟨.hbm, 677, rfl⟩
abbrev main_v508 : Ref sig .tc := ⟨.hbm, 678, rfl⟩
abbrev main_v509 : Ref sig .tc := ⟨.hbm, 679, rfl⟩
abbrev main_v510 : Ref sig .tc := ⟨.hbm, 680, rfl⟩
abbrev main_v511 : Ref sig .tc := ⟨.hbm, 681, rfl⟩
abbrev main_cst_104 : Ref sig .tc := ⟨.hbm, 682, rfl⟩
abbrev main_v512 : Ref sig .tc := ⟨.hbm, 683, rfl⟩
abbrev main_v513 : Ref sig .tc := ⟨.hbm, 684, rfl⟩
abbrev main_cst_105 : Ref sig .tc := ⟨.hbm, 685, rfl⟩
abbrev main_v514 : Ref sig .tc := ⟨.hbm, 686, rfl⟩
abbrev main_v515 : Ref sig .tc := ⟨.hbm, 687, rfl⟩
abbrev main_v516 : Ref sig .tc := ⟨.hbm, 688, rfl⟩
abbrev main_v517 : Ref sig .tc := ⟨.hbm, 689, rfl⟩
abbrev main_cst_106 : Ref sig .tc := ⟨.hbm, 690, rfl⟩
abbrev main_v518 : Ref sig .tc := ⟨.hbm, 691, rfl⟩
abbrev main_v519 : Ref sig .tc := ⟨.hbm, 692, rfl⟩
abbrev main_cst_107 : Ref sig .tc := ⟨.hbm, 693, rfl⟩
abbrev main_v520 : Ref sig .tc := ⟨.hbm, 694, rfl⟩
abbrev main_v521 : Ref sig .tc := ⟨.hbm, 695, rfl⟩
abbrev main_v522 : Ref sig .tc := ⟨.hbm, 696, rfl⟩
abbrev main_v523 : Ref sig .tc := ⟨.hbm, 697, rfl⟩
abbrev main_v524 : Ref sig .tc := ⟨.hbm, 698, rfl⟩
abbrev main_cst_108 : Ref sig .tc := ⟨.hbm, 699, rfl⟩
abbrev main_v525 : Ref sig .tc := ⟨.hbm, 700, rfl⟩
abbrev main_v526 : Ref sig .tc := ⟨.hbm, 701, rfl⟩
abbrev main_cst_109 : Ref sig .tc := ⟨.hbm, 702, rfl⟩
abbrev main_v527 : Ref sig .tc := ⟨.hbm, 703, rfl⟩
abbrev main_v528 : Ref sig .tc := ⟨.hbm, 704, rfl⟩
abbrev main_v529 : Ref sig .tc := ⟨.hbm, 705, rfl⟩
abbrev main_v530 : Ref sig .tc := ⟨.hbm, 706, rfl⟩
abbrev main_v531 : Ref sig .tc := ⟨.hbm, 707, rfl⟩
abbrev main_v532 : Ref sig .tc := ⟨.hbm, 708, rfl⟩
abbrev main_v533 : Ref sig .tc := ⟨.hbm, 709, rfl⟩
abbrev main_v534 : Ref sig .tc := ⟨.hbm, 710, rfl⟩
abbrev main_v535 : Ref sig .tc := ⟨.hbm, 711, rfl⟩
abbrev main_cst_110 : Ref sig .tc := ⟨.hbm, 712, rfl⟩
abbrev main_v536 : Ref sig .tc := ⟨.hbm, 713, rfl⟩
abbrev main_cst_111 : Ref sig .tc := ⟨.hbm, 714, rfl⟩
abbrev main_v537 : Ref sig .tc := ⟨.hbm, 715, rfl⟩
abbrev main_v538 : Ref sig .tc := ⟨.hbm, 716, rfl⟩
abbrev main_v539 : Ref sig .tc := ⟨.hbm, 717, rfl⟩
abbrev main_v540 : Ref sig .tc := ⟨.hbm, 718, rfl⟩
abbrev main_v541 : Ref sig .tc := ⟨.hbm, 719, rfl⟩
abbrev main_cst_112 : Ref sig .tc := ⟨.hbm, 720, rfl⟩
abbrev main_v542 : Ref sig .tc := ⟨.hbm, 721, rfl⟩
abbrev main_v543 : Ref sig .tc := ⟨.hbm, 722, rfl⟩
abbrev main_v544 : Ref sig .tc := ⟨.hbm, 723, rfl⟩
abbrev main_v545 : Ref sig .tc := ⟨.hbm, 724, rfl⟩
abbrev main_v546 : Ref sig .tc := ⟨.hbm, 725, rfl⟩
abbrev main_v547 : Ref sig .tc := ⟨.hbm, 726, rfl⟩
abbrev main_v548 : Ref sig .tc := ⟨.hbm, 727, rfl⟩
abbrev main_cst_113 : Ref sig .tc := ⟨.hbm, 728, rfl⟩
abbrev main_v549 : Ref sig .tc := ⟨.hbm, 729, rfl⟩
abbrev main_v550 : Ref sig .tc := ⟨.hbm, 730, rfl⟩
abbrev main_v551 : Ref sig .tc := ⟨.hbm, 731, rfl⟩
abbrev main_v552 : Ref sig .tc := ⟨.hbm, 732, rfl⟩
abbrev main_v553 : Ref sig .tc := ⟨.hbm, 733, rfl⟩
abbrev main_v554 : Ref sig .tc := ⟨.hbm, 734, rfl⟩
abbrev main_v555 : Ref sig .tc := ⟨.hbm, 735, rfl⟩
abbrev main_v556 : Ref sig .tc := ⟨.hbm, 736, rfl⟩
abbrev main_v557 : Ref sig .tc := ⟨.hbm, 737, rfl⟩
abbrev main_v558 : Ref sig .tc := ⟨.hbm, 738, rfl⟩
abbrev main_v559 : Ref sig .tc := ⟨.hbm, 739, rfl⟩
abbrev main_v560 : Ref sig .tc := ⟨.hbm, 740, rfl⟩
abbrev main_v561 : Ref sig .tc := ⟨.hbm, 741, rfl⟩
abbrev main_v562 : Ref sig .tc := ⟨.hbm, 742, rfl⟩
abbrev main_v563 : Ref sig .tc := ⟨.hbm, 743, rfl⟩
abbrev main_v564 : Ref sig .tc := ⟨.hbm, 744, rfl⟩
abbrev main_v565 : Ref sig .tc := ⟨.hbm, 745, rfl⟩
abbrev main_v566 : Ref sig .tc := ⟨.hbm, 746, rfl⟩
abbrev main_cst_114 : Ref sig .tc := ⟨.hbm, 747, rfl⟩
abbrev main_v567 : Ref sig .tc := ⟨.hbm, 748, rfl⟩
abbrev main_v568 : Ref sig .tc := ⟨.hbm, 749, rfl⟩
abbrev main_cst_115 : Ref sig .tc := ⟨.hbm, 750, rfl⟩
abbrev main_v569 : Ref sig .tc := ⟨.hbm, 751, rfl⟩
abbrev main_v570 : Ref sig .tc := ⟨.hbm, 752, rfl⟩
abbrev main_v571 : Ref sig .tc := ⟨.hbm, 753, rfl⟩
abbrev main_v572 : Ref sig .tc := ⟨.hbm, 754, rfl⟩
abbrev main_cst_116 : Ref sig .tc := ⟨.hbm, 755, rfl⟩
abbrev main_v573 : Ref sig .tc := ⟨.hbm, 756, rfl⟩
abbrev main_v574 : Ref sig .tc := ⟨.hbm, 757, rfl⟩
abbrev main_cst_117 : Ref sig .tc := ⟨.hbm, 758, rfl⟩
abbrev main_v575 : Ref sig .tc := ⟨.hbm, 759, rfl⟩
abbrev main_v576 : Ref sig .tc := ⟨.hbm, 760, rfl⟩
abbrev main_v577 : Ref sig .tc := ⟨.hbm, 761, rfl⟩
abbrev main_v578 : Ref sig .tc := ⟨.hbm, 762, rfl⟩
abbrev main_v579 : Ref sig .tc := ⟨.hbm, 763, rfl⟩
abbrev main_cst_118 : Ref sig .tc := ⟨.hbm, 764, rfl⟩
abbrev main_v580 : Ref sig .tc := ⟨.hbm, 765, rfl⟩
abbrev main_v581 : Ref sig .tc := ⟨.hbm, 766, rfl⟩
abbrev main_cst_119 : Ref sig .tc := ⟨.hbm, 767, rfl⟩
abbrev main_v582 : Ref sig .tc := ⟨.hbm, 768, rfl⟩
abbrev main_v583 : Ref sig .tc := ⟨.hbm, 769, rfl⟩
abbrev main_v584 : Ref sig .tc := ⟨.hbm, 770, rfl⟩
abbrev main_v585 : Ref sig .tc := ⟨.hbm, 771, rfl⟩
abbrev main_v586 : Ref sig .tc := ⟨.hbm, 772, rfl⟩
abbrev main_v587 : Ref sig .tc := ⟨.hbm, 773, rfl⟩
abbrev main_v588 : Ref sig .tc := ⟨.hbm, 774, rfl⟩
abbrev main_v589 : Ref sig .tc := ⟨.hbm, 775, rfl⟩
abbrev main_v590 : Ref sig .tc := ⟨.hbm, 776, rfl⟩
abbrev main_cst_120 : Ref sig .tc := ⟨.hbm, 777, rfl⟩
abbrev main_v591 : Ref sig .tc := ⟨.hbm, 778, rfl⟩
abbrev main_cst_121 : Ref sig .tc := ⟨.hbm, 779, rfl⟩
abbrev main_v592 : Ref sig .tc := ⟨.hbm, 780, rfl⟩
abbrev main_v593 : Ref sig .tc := ⟨.hbm, 781, rfl⟩
abbrev main_v594 : Ref sig .tc := ⟨.hbm, 782, rfl⟩
abbrev main_v595 : Ref sig .tc := ⟨.hbm, 783, rfl⟩
abbrev main_v596 : Ref sig .tc := ⟨.hbm, 784, rfl⟩
abbrev main_cst_122 : Ref sig .tc := ⟨.hbm, 785, rfl⟩
abbrev main_v597 : Ref sig .tc := ⟨.hbm, 786, rfl⟩
abbrev main_v598 : Ref sig .tc := ⟨.hbm, 787, rfl⟩
abbrev main_v599 : Ref sig .tc := ⟨.hbm, 788, rfl⟩
abbrev main_v600 : Ref sig .tc := ⟨.hbm, 789, rfl⟩
abbrev main_v601 : Ref sig .tc := ⟨.hbm, 790, rfl⟩
abbrev main_v602 : Ref sig .tc := ⟨.hbm, 791, rfl⟩
abbrev main_v603 : Ref sig .tc := ⟨.hbm, 792, rfl⟩
abbrev main_cst_123 : Ref sig .tc := ⟨.hbm, 793, rfl⟩
abbrev main_v604 : Ref sig .tc := ⟨.hbm, 794, rfl⟩
abbrev main_v605 : Ref sig .tc := ⟨.hbm, 795, rfl⟩
abbrev main_v606 : Ref sig .tc := ⟨.hbm, 796, rfl⟩
abbrev main_v607 : Ref sig .tc := ⟨.hbm, 797, rfl⟩
abbrev main_v608 : Ref sig .tc := ⟨.hbm, 798, rfl⟩
abbrev main_v609 : Ref sig .tc := ⟨.hbm, 799, rfl⟩
abbrev main_v610 : Ref sig .tc := ⟨.hbm, 800, rfl⟩
abbrev main_v611 : Ref sig .tc := ⟨.hbm, 801, rfl⟩
abbrev main_v612 : Ref sig .tc := ⟨.hbm, 802, rfl⟩
abbrev main_v613 : Ref sig .tc := ⟨.hbm, 803, rfl⟩
abbrev main_v614 : Ref sig .tc := ⟨.hbm, 804, rfl⟩
abbrev main_v615 : Ref sig .tc := ⟨.hbm, 805, rfl⟩
abbrev main_v616 : Ref sig .tc := ⟨.hbm, 806, rfl⟩
abbrev main_v617 : Ref sig .tc := ⟨.hbm, 807, rfl⟩
abbrev main_v618 : Ref sig .tc := ⟨.hbm, 808, rfl⟩
abbrev main_v619 : Ref sig .tc := ⟨.hbm, 809, rfl⟩
abbrev main_v620 : Ref sig .tc := ⟨.hbm, 810, rfl⟩
abbrev main_v621 : Ref sig .tc := ⟨.hbm, 811, rfl⟩
abbrev main_cst_124 : Ref sig .tc := ⟨.hbm, 812, rfl⟩
abbrev main_v622 : Ref sig .tc := ⟨.hbm, 813, rfl⟩
abbrev main_v623 : Ref sig .tc := ⟨.hbm, 814, rfl⟩
abbrev main_cst_125 : Ref sig .tc := ⟨.hbm, 815, rfl⟩
abbrev main_v624 : Ref sig .tc := ⟨.hbm, 816, rfl⟩
abbrev main_v625 : Ref sig .tc := ⟨.hbm, 817, rfl⟩
abbrev main_v626 : Ref sig .tc := ⟨.hbm, 818, rfl⟩
abbrev main_v627 : Ref sig .tc := ⟨.hbm, 819, rfl⟩
abbrev main_cst_126 : Ref sig .tc := ⟨.hbm, 820, rfl⟩
abbrev main_v628 : Ref sig .tc := ⟨.hbm, 821, rfl⟩
abbrev main_v629 : Ref sig .tc := ⟨.hbm, 822, rfl⟩
abbrev main_cst_127 : Ref sig .tc := ⟨.hbm, 823, rfl⟩
abbrev main_v630 : Ref sig .tc := ⟨.hbm, 824, rfl⟩
abbrev main_v631 : Ref sig .tc := ⟨.hbm, 825, rfl⟩
abbrev main_v632 : Ref sig .tc := ⟨.hbm, 826, rfl⟩
abbrev main_v633 : Ref sig .tc := ⟨.hbm, 827, rfl⟩
abbrev main_v634 : Ref sig .tc := ⟨.hbm, 828, rfl⟩
abbrev main_cst_128 : Ref sig .tc := ⟨.hbm, 829, rfl⟩
abbrev main_v635 : Ref sig .tc := ⟨.hbm, 830, rfl⟩
abbrev main_v636 : Ref sig .tc := ⟨.hbm, 831, rfl⟩
abbrev main_cst_129 : Ref sig .tc := ⟨.hbm, 832, rfl⟩
abbrev main_v637 : Ref sig .tc := ⟨.hbm, 833, rfl⟩
abbrev main_v638 : Ref sig .tc := ⟨.hbm, 834, rfl⟩
abbrev main_v639 : Ref sig .tc := ⟨.hbm, 835, rfl⟩
abbrev main_v640 : Ref sig .tc := ⟨.hbm, 836, rfl⟩
abbrev main_v641 : Ref sig .tc := ⟨.hbm, 837, rfl⟩
abbrev main_v642 : Ref sig .tc := ⟨.hbm, 838, rfl⟩
abbrev main_v643 : Ref sig .tc := ⟨.hbm, 839, rfl⟩
abbrev main_v644 : Ref sig .tc := ⟨.hbm, 840, rfl⟩
abbrev main_v645 : Ref sig .tc := ⟨.hbm, 841, rfl⟩
abbrev main_cst_130 : Ref sig .tc := ⟨.hbm, 842, rfl⟩
abbrev main_v646 : Ref sig .tc := ⟨.hbm, 843, rfl⟩
abbrev main_cst_131 : Ref sig .tc := ⟨.hbm, 844, rfl⟩
abbrev main_v647 : Ref sig .tc := ⟨.hbm, 845, rfl⟩
abbrev main_v648 : Ref sig .tc := ⟨.hbm, 846, rfl⟩
abbrev main_v649 : Ref sig .tc := ⟨.hbm, 847, rfl⟩
abbrev main_v650 : Ref sig .tc := ⟨.hbm, 848, rfl⟩
abbrev main_v651 : Ref sig .tc := ⟨.hbm, 849, rfl⟩
abbrev main_cst_132 : Ref sig .tc := ⟨.hbm, 850, rfl⟩
abbrev main_v652 : Ref sig .tc := ⟨.hbm, 851, rfl⟩
abbrev main_v653 : Ref sig .tc := ⟨.hbm, 852, rfl⟩
abbrev main_v654 : Ref sig .tc := ⟨.hbm, 853, rfl⟩
abbrev main_v655 : Ref sig .tc := ⟨.hbm, 854, rfl⟩
abbrev main_v656 : Ref sig .tc := ⟨.hbm, 855, rfl⟩
abbrev main_v657 : Ref sig .tc := ⟨.hbm, 856, rfl⟩
abbrev main_v658 : Ref sig .tc := ⟨.hbm, 857, rfl⟩
abbrev main_cst_133 : Ref sig .tc := ⟨.hbm, 858, rfl⟩
abbrev main_v659 : Ref sig .tc := ⟨.hbm, 859, rfl⟩
abbrev main_v660 : Ref sig .tc := ⟨.hbm, 860, rfl⟩
abbrev main_v661 : Ref sig .tc := ⟨.hbm, 861, rfl⟩
abbrev main_v662 : Ref sig .tc := ⟨.hbm, 862, rfl⟩
abbrev main_v663 : Ref sig .tc := ⟨.hbm, 863, rfl⟩
abbrev main_v664 : Ref sig .tc := ⟨.hbm, 864, rfl⟩
abbrev main_v665 : Ref sig .tc := ⟨.hbm, 865, rfl⟩
abbrev main_v666 : Ref sig .tc := ⟨.hbm, 866, rfl⟩
abbrev main_v667 : Ref sig .tc := ⟨.hbm, 867, rfl⟩
abbrev main_v668 : Ref sig .tc := ⟨.hbm, 868, rfl⟩
abbrev main_v669 : Ref sig .tc := ⟨.hbm, 869, rfl⟩
abbrev main_v670 : Ref sig .tc := ⟨.hbm, 870, rfl⟩
abbrev main_v671 : Ref sig .tc := ⟨.hbm, 871, rfl⟩
abbrev main_v672 : Ref sig .tc := ⟨.hbm, 872, rfl⟩
abbrev main_v673 : Ref sig .tc := ⟨.hbm, 873, rfl⟩
abbrev main_v674 : Ref sig .tc := ⟨.hbm, 874, rfl⟩
abbrev main_v675 : Ref sig .tc := ⟨.hbm, 875, rfl⟩
abbrev main_v676 : Ref sig .tc := ⟨.hbm, 876, rfl⟩
abbrev main_cst_134 : Ref sig .tc := ⟨.hbm, 877, rfl⟩
abbrev main_v677 : Ref sig .tc := ⟨.hbm, 878, rfl⟩
abbrev main_v678 : Ref sig .tc := ⟨.hbm, 879, rfl⟩
abbrev main_cst_135 : Ref sig .tc := ⟨.hbm, 880, rfl⟩
abbrev main_v679 : Ref sig .tc := ⟨.hbm, 881, rfl⟩
abbrev main_v680 : Ref sig .tc := ⟨.hbm, 882, rfl⟩
abbrev main_v681 : Ref sig .tc := ⟨.hbm, 883, rfl⟩
abbrev main_v682 : Ref sig .tc := ⟨.hbm, 884, rfl⟩
abbrev main_cst_136 : Ref sig .tc := ⟨.hbm, 885, rfl⟩
abbrev main_v683 : Ref sig .tc := ⟨.hbm, 886, rfl⟩
abbrev main_v684 : Ref sig .tc := ⟨.hbm, 887, rfl⟩
abbrev main_cst_137 : Ref sig .tc := ⟨.hbm, 888, rfl⟩
abbrev main_v685 : Ref sig .tc := ⟨.hbm, 889, rfl⟩
abbrev main_v686 : Ref sig .tc := ⟨.hbm, 890, rfl⟩
abbrev main_v687 : Ref sig .tc := ⟨.hbm, 891, rfl⟩
abbrev main_v688 : Ref sig .tc := ⟨.hbm, 892, rfl⟩
abbrev main_v689 : Ref sig .tc := ⟨.hbm, 893, rfl⟩
abbrev main_cst_138 : Ref sig .tc := ⟨.hbm, 894, rfl⟩
abbrev main_v690 : Ref sig .tc := ⟨.hbm, 895, rfl⟩
abbrev main_v691 : Ref sig .tc := ⟨.hbm, 896, rfl⟩
abbrev main_cst_139 : Ref sig .tc := ⟨.hbm, 897, rfl⟩
abbrev main_v692 : Ref sig .tc := ⟨.hbm, 898, rfl⟩
abbrev main_v693 : Ref sig .tc := ⟨.hbm, 899, rfl⟩
abbrev main_v694 : Ref sig .tc := ⟨.hbm, 900, rfl⟩
abbrev main_v695 : Ref sig .tc := ⟨.hbm, 901, rfl⟩
abbrev main_v696 : Ref sig .tc := ⟨.hbm, 902, rfl⟩
abbrev main_v697 : Ref sig .tc := ⟨.hbm, 903, rfl⟩
abbrev main_v698 : Ref sig .tc := ⟨.hbm, 904, rfl⟩
abbrev main_v699 : Ref sig .tc := ⟨.hbm, 905, rfl⟩
abbrev main_v700 : Ref sig .tc := ⟨.hbm, 906, rfl⟩
abbrev main_cst_140 : Ref sig .tc := ⟨.hbm, 907, rfl⟩
abbrev main_v701 : Ref sig .tc := ⟨.hbm, 908, rfl⟩
abbrev main_cst_141 : Ref sig .tc := ⟨.hbm, 909, rfl⟩
abbrev main_v702 : Ref sig .tc := ⟨.hbm, 910, rfl⟩
abbrev main_v703 : Ref sig .tc := ⟨.hbm, 911, rfl⟩
abbrev main_v704 : Ref sig .tc := ⟨.hbm, 912, rfl⟩
abbrev main_v705 : Ref sig .tc := ⟨.hbm, 913, rfl⟩
abbrev main_v706 : Ref sig .tc := ⟨.hbm, 914, rfl⟩
abbrev main_cst_142 : Ref sig .tc := ⟨.hbm, 915, rfl⟩
abbrev main_v707 : Ref sig .tc := ⟨.hbm, 916, rfl⟩
abbrev main_v708 : Ref sig .tc := ⟨.hbm, 917, rfl⟩
abbrev main_v709 : Ref sig .tc := ⟨.hbm, 918, rfl⟩
abbrev main_v710 : Ref sig .tc := ⟨.hbm, 919, rfl⟩
abbrev main_v711 : Ref sig .tc := ⟨.hbm, 920, rfl⟩
abbrev main_v712 : Ref sig .tc := ⟨.hbm, 921, rfl⟩
abbrev main_v713 : Ref sig .tc := ⟨.hbm, 922, rfl⟩
abbrev main_cst_143 : Ref sig .tc := ⟨.hbm, 923, rfl⟩
abbrev main_v714 : Ref sig .tc := ⟨.hbm, 924, rfl⟩
abbrev main_v715 : Ref sig .tc := ⟨.hbm, 925, rfl⟩
abbrev main_v716 : Ref sig .tc := ⟨.hbm, 926, rfl⟩
abbrev main_v717 : Ref sig .tc := ⟨.hbm, 927, rfl⟩
abbrev main_v718 : Ref sig .tc := ⟨.hbm, 928, rfl⟩
abbrev main_v719 : Ref sig .tc := ⟨.hbm, 929, rfl⟩
abbrev main_cst_144 : Ref sig .tc := ⟨.hbm, 930, rfl⟩
abbrev main_v720 : Ref sig .tc := ⟨.hbm, 931, rfl⟩
abbrev main_v721 : Ref sig .tc := ⟨.hbm, 932, rfl⟩
abbrev main_cst_145 : Ref sig .tc := ⟨.hbm, 933, rfl⟩
abbrev main_v722 : Ref sig .tc := ⟨.hbm, 934, rfl⟩
abbrev main_v723 : Ref sig .tc := ⟨.hbm, 935, rfl⟩
abbrev main_v724 : Ref sig .tc := ⟨.hbm, 936, rfl⟩
abbrev main_v725 : Ref sig .tc := ⟨.hbm, 937, rfl⟩
abbrev main_v726 : Ref sig .tc := ⟨.hbm, 938, rfl⟩
abbrev main_v727 : Ref sig .tc := ⟨.hbm, 939, rfl⟩

abbrev nD : Nat := 1
abbrev τ : Topo := Topo.v7x

variable {F : FTy → Type} [FloatOps F]
-- ==== Proof.Scalars.lean ====
/- Facts about single extended reals that the equation between the kernel and the reference rests on: which values are
   real numbers, how a nonnegative real factor spreads over sums, and how the two programs' scalar formulas (reciprocal
   square root, leaky threshold) agree. -/
module

public import Idealize.ShloMosaic.Lib.Pointwise

@[expose] public section

noncomputable section

namespace Cert.Gnn

open Idealize.ShloMosaic
open scoped BigOperators

/-- The extended real `x` is a real number. -/
def IsR (x : EReal) : Prop := ∃ r : ℝ, x = (r : EReal)

/-- A real number is neither infinity. -/
theorem IsR.ne {x : EReal} (h : IsR x) : x ≠ ⊥ ∧ x ≠ ⊤ := by
  obtain ⟨r, rfl⟩ := h
  exact ⟨EReal.coe_ne_bot r, EReal.coe_ne_top r⟩

/-- What is neither infinity is a real number. -/
theorem IsR.of_ne {x : EReal} (h : x ≠ ⊥) (h' : x ≠ ⊤) : IsR x := by
  induction x with
  | bot => exact absurd rfl h
  | top => exact absurd rfl h'
  | coe r => exact ⟨r, rfl⟩

/-- Zero is real. -/
theorem IsR.zero : IsR 0 := ⟨0, rfl⟩
/-- One is real. -/
theorem IsR.one : IsR 1 := ⟨1, rfl⟩

/-- Sums of two real numbers are real. -/
theorem IsR.add {x y : EReal} (hx : IsR x) (hy : IsR y) : IsR (x + y) := by
  obtain ⟨a, rfl⟩ := hx; obtain ⟨b, rfl⟩ := hy
  exact ⟨a + b, (EReal.coe_add a b).symm⟩

/-- Differences of two real numbers are real. -/
theorem IsR.sub {x y : EReal} (hx : IsR x) (hy : IsR y) : IsR (x - y) := by
  obtain ⟨a, rfl⟩ := hx; obtain ⟨b, rfl⟩ := hy
  exact ⟨a - b, (EReal.coe_sub a b).symm⟩

/-- Products of two real numbers are real. -/
theorem IsR.mul {x y : EReal} (hx : IsR x) (hy : IsR y) : IsR (x * y) := by
  obtain ⟨a, rfl⟩ := hx; obtain ⟨b, rfl⟩ := hy
  exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsR.sum {ι : Type*} {s : Finset ι} {f : ι → EReal} (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The larger of two real numbers is real. -/
theorem IsR.max {x y : EReal} (hx : IsR x) (hy : IsR y) : IsR (max x y) := by
  rcases max_choice x y with h | h <;> rw [h] <;> assumption

/-- The sigmoid of anything is real. -/
theorem IsR.logistic (x : EReal) : IsR (Ideal.logistic x) := by
  induction x with
  | bot => rw [Ideal.logistic_bot]; exact IsR.zero
  | top => rw [Ideal.logistic_top]; exact IsR.one
  | coe r => rw [Ideal.logistic_coe]; exact ⟨_, rfl⟩

/-- The hyperbolic tangent of anything is real. -/
theorem IsR.tanh (x : EReal) : IsR (Ideal.tanh x) := by
  induction x with
  | bot => rw [Ideal.tanh_bot]; exact ⟨-1, by norm_num⟩
  | top => rw [Ideal.tanh_top]; exact IsR.one
  | coe r => rw [Ideal.tanh_coe]; exact ⟨_, rfl⟩

/-- A nonnegative real factor spreads over a sum of two extended reals. -/
theorem nn_mul_add {d : EReal} (h0 : 0 ≤ d) (ht : d ≠ ⊤) (a b : EReal) : d * (a + b) = d * a + d * b :=
  EReal.left_distrib_of_nonneg_of_ne_top h0 ht a b

/-- A nonnegative real factor spreads over a finite sum. -/
theorem nn_mul_sum {ι : Type*} {d : EReal} (h0 : 0 ≤ d) (ht : d ≠ ⊤) (s : Finset ι) (f : ι → EReal) :
    d * ∑ i ∈ s, f i = ∑ i ∈ s, d * f i := by
  classical
  induction s using Finset.induction_on with
  | empty => rw [Finset.sum_empty, Finset.sum_empty, mul_zero]
  | insert a s ha ih => rw [Finset.sum_insert ha, Finset.sum_insert ha, nn_mul_add h0 ht, ih]

/-- A real factor spreads over a sum whose first term is real. -/
theorem real_mul_add {h a : EReal} (hh : IsR h) (ha : IsR a) (b : EReal) : h * (a + b) = h * a + h * b := by
  obtain ⟨r, rfl⟩ := hh; obtain ⟨s, rfl⟩ := ha
  induction b with
  | coe t => simp only [← EReal.coe_add, ← EReal.coe_mul, mul_add]
  | bot =>
    rw [EReal.add_bot]
    rcases lt_trichotomy r 0 with h | h | h
    · rw [EReal.coe_mul_bot_of_neg h, ← EReal.coe_mul, EReal.coe_add_top]
    · subst h; simp
    · rw [EReal.coe_mul_bot_of_pos h, EReal.add_bot]
  | top =>
    rw [EReal.coe_add_top]
    rcases lt_trichotomy r 0 with h | h | h
    · rw [EReal.coe_mul_top_of_neg h, EReal.add_bot]
    · subst h; simp
    · rw [EReal.coe_mul_top_of_pos h, ← EReal.coe_mul, EReal.coe_add_top]

/-- A real factor spreads over a finite sum of reals. -/
theorem real_mul_sum {ι : Type*} {d : EReal} (hd : IsR d) (s : Finset ι) (f : ι → EReal) (hf : ∀ i, IsR (f i)) :
    d * ∑ i ∈ s, f i = ∑ i ∈ s, d * f i := by
  classical
  induction s using Finset.induction_on with
  | empty => rw [Finset.sum_empty, Finset.sum_empty, mul_zero]
  | insert a s ha ih => rw [Finset.sum_insert ha, Finset.sum_insert ha, real_mul_add hd (hf a), ih]

/-- The reciprocal square root of a positive extended real is one divided by its square root. -/
theorem rsqrt_eq_div (x : EReal) (h : 0 < x) : Ideal.rsqrt x = Ideal.div 1 (Ideal.sqrt x) := by
  induction x with
  | bot => exact absurd h (by simp)
  | top => rw [Ideal.rsqrt_top, Ideal.sqrt_top]; simp [Ideal.div]
  | coe r =>
    have hr : 0 < r := by exact_mod_cast h
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_mul, one_div]

/-- The reciprocal square root of a positive extended real is a nonnegative real. -/
theorem rsqrt_nn (x : EReal) (h : 0 < x) : 0 ≤ Ideal.rsqrt x ∧ Ideal.rsqrt x ≠ ⊤ := by
  induction x with
  | bot => exact absurd h (by simp)
  | top => rw [Ideal.rsqrt_top]; exact ⟨le_refl _, by simp⟩
  | coe r =>
    have hr : 0 < r := by exact_mod_cast h
    rw [Ideal.rsqrt_coe, if_neg (not_lt.2 hr.le), if_neg hr.ne']
    exact ⟨by exact_mod_cast inv_nonneg.2 (Real.sqrt_nonneg r), EReal.coe_ne_top _⟩

/-- Multiplying by the reciprocal square root of a positive extended real is dividing by its square root. -/
theorem mul_rsqrt_eq_div (a x : EReal) (h : 0 < x) : a * Ideal.rsqrt x = Ideal.div a (Ideal.sqrt x) := by
  induction x with
  | bot => exact absurd h (by simp)
  | top => rw [Ideal.rsqrt_top, Ideal.sqrt_top]; simp [Ideal.div]
  | coe r =>
    have hr : 0 < r := by exact_mod_cast h
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_div]

/-- Dividing by a nonzero real is multiplying by one over it. -/
theorem div_real (a : EReal) {r : ℝ} (h : r ≠ 0) : Ideal.div a (r : EReal) = a * (Ideal.div 1 (r : EReal)) := by
  rw [Ideal.div_coe h, Ideal.div_coe h, one_mul]

/-- One over a nonzero real is a real. -/
theorem IsR.inv {r : ℝ} (h : r ≠ 0) : IsR (Ideal.div 1 (r : EReal)) := by
  rw [Ideal.div_coe h, one_mul]; exact ⟨_, rfl⟩

end Cert.Gnn

end
-- ==== Proof.Literals.lean ====
/- The float literals both programs use, as extended reals, and the leaky threshold: the kernel's maximum of a value and
   its hundredth is the reference's selection by sign. -/
module

public import proofs.«01_k».proof.Proof.Scalars

@[expose] public section

noncomputable section

namespace Cert.Gnn

open Idealize.ShloMosaic

/-- The number of nodes, the literal `1024.0`. -/
theorem lit_nodes : Ideal.ofBits .f32 0x44800000#32 = ((1024 : ℝ) : EReal) := by
  simp [Ideal.ofBits, Ideal.ieee, -EReal.coe_mul]; norm_num

/-- The batch norm's epsilon is a positive real. -/
theorem lit_eps : ∃ r : ℝ, Ideal.ofBits .f32 0x3727C5AC#32 = (r : EReal) ∧ 0 < r := by
  refine ⟨10995116 / 2 ^ 40, ?_, by norm_num⟩
  simp [Ideal.ofBits, Ideal.ieee, -EReal.coe_mul]; norm_num

/-- The leaky slope is a real between zero and one. -/
theorem lit_slope : ∃ r : ℝ, Ideal.ofBits .f32 0x3C23D70A#32 = (r : EReal) ∧ 0 < r ∧ r < 1 := by
  refine ⟨10737418 / 2 ^ 30, ?_, by norm_num, by norm_num⟩
  simp [Ideal.ofBits, Ideal.ieee, -EReal.coe_mul]; norm_num

/-- The literal `0xFF800000` is minus infinity. -/
theorem lit_bot : Ideal.ofBits .f32 0xFF800000#32 = ⊥ := by
  simp [Ideal.ofBits, Ideal.ieee]

/-- The literal `0x7F800000` is plus infinity. -/
theorem lit_top : Ideal.ofBits .f32 0x7F800000#32 = ⊤ := by
  simp [Ideal.ofBits, Ideal.ieee]

/-- A leaky threshold as a maximum: a value, or its hundredth where that is larger. -/
def leaky (v : EReal) : EReal := max v (Ideal.ofBits .f32 0x3C23D70A#32 * v)

/-- The maximum is the selection by sign, at every extended real. -/
theorem leaky_eq (v : EReal) : leaky v = if 0 < v then v else Ideal.ofBits .f32 0x3C23D70A#32 * v := by
  obtain ⟨c, hc, h0, h1⟩ := lit_slope
  unfold leaky
  rw [hc]
  induction v with
  | bot => rw [EReal.coe_mul_bot_of_pos h0, if_neg (by simp)]; exact max_self _
  | top => rw [EReal.coe_mul_top_of_pos h0, if_pos (by simp)]; exact max_self _
  | coe r =>
    rw [← EReal.coe_mul]
    split
    · next h =>
      have hr : 0 < r := by exact_mod_cast h
      exact max_eq_left (by exact_mod_cast (by nlinarith : c * r ≤ r))
    · next h =>
      have hr : r ≤ 0 := by
        have : ¬ (0 : ℝ) < r := fun h' => h (by exact_mod_cast h')
        linarith
      exact max_eq_right (by exact_mod_cast (by nlinarith : r ≤ c * r))

/-- The leaky threshold of a real is real. -/
theorem IsR.leaky {v : EReal} (h : IsR v) : IsR (leaky v) := by
  obtain ⟨c, hc, -, -⟩ := lit_slope
  unfold Gnn.leaky
  rw [hc]
  exact h.max (IsR.mul ⟨c, rfl⟩ h)

end Cert.Gnn

end
-- ==== Proof.BatchNorm.lean ====
/- One column of a batch norm over the nodes: its mean, its variance, and that the normalised column times a real scale is
   real whatever the column held. -/
module

public import proofs.«01_k».proof.Proof.Literals

@[expose] public section

noncomputable section

namespace Cert.Gnn

open Idealize.ShloMosaic
open scoped BigOperators

/-- The mean of a column over the nodes. -/
def mean (v : Fin 1024 → EReal) : EReal := Ideal.div (∑ i, v i) (Ideal.ofBits .f32 0x44800000#32)

/-- The variance of a column over the nodes. -/
def variance (v : Fin 1024 → EReal) : EReal :=
  Ideal.div (∑ i, (v i - mean v) * (v i - mean v)) (Ideal.ofBits .f32 0x44800000#32)

/-- A square is not negative. -/
theorem sq_nn (x : EReal) : 0 ≤ x * x := by
  induction x with
  | bot => rw [EReal.bot_mul_bot]; exact le_top
  | top => rw [EReal.top_mul_top]; exact le_top
  | coe r => rw [← EReal.coe_mul]; exact_mod_cast mul_self_nonneg r

/-- The square of what is not real is plus infinity. -/
theorem sq_inf {x : EReal} (h : ¬ IsR x) : x * x = ⊤ := by
  induction x with
  | bot => exact EReal.bot_mul_bot
  | top => exact EReal.top_mul_top
  | coe r => exact absurd ⟨r, rfl⟩ h

/-- Both terms of a real sum are real. -/
theorem IsR.of_add {x y : EReal} (h : IsR (x + y)) : IsR x ∧ IsR y := by
  have hb := h.ne
  induction x with
  | bot => exact absurd (EReal.bot_add _) hb.1
  | top =>
    induction y with
    | bot => exact absurd (EReal.add_bot _) hb.1
    | top => exact absurd rfl hb.2
    | coe s => exact absurd (EReal.top_add_coe s) hb.2
  | coe r =>
    induction y with
    | bot => exact absurd (EReal.add_bot _) hb.1
    | top => exact absurd (EReal.coe_add_top r) hb.2
    | coe s => exact ⟨⟨r, rfl⟩, ⟨s, rfl⟩⟩

/-- What is subtracted in a real difference is real. -/
theorem IsR.of_sub {x y : EReal} (h : IsR (x - y)) : IsR y := by
  rw [sub_eq_add_neg] at h
  obtain ⟨r, hr⟩ := h.of_add.2
  exact ⟨-r, by rw [EReal.coe_neg, ← hr, neg_neg]⟩

/-- Every term of a real sum is real. -/
theorem IsR.of_sum {ι : Type*} {s : Finset ι} {f : ι → EReal} (h : IsR (∑ i ∈ s, f i)) : ∀ i ∈ s, IsR (f i) := by
  classical
  intro i hi
  rw [← Finset.add_sum_erase s f hi] at h
  exact h.of_add.1

/-- Dividing by the number of nodes: multiplying by its inverse. -/
theorem div_nodes (x : EReal) : Ideal.div x (Ideal.ofBits .f32 0x44800000#32) = x * ((1 / 1024 : ℝ) : EReal) := by
  rw [lit_nodes, Ideal.div_coe (by norm_num)]

/-- A real multiple by the inverse number of nodes comes from a real. -/
theorem IsR.of_div_nodes {x : EReal} (h : IsR (x * ((1 / 1024 : ℝ) : EReal))) : IsR x := by
  induction x with
  | bot => rw [EReal.bot_mul_coe_of_pos (by norm_num)] at h; exact absurd rfl h.ne.1
  | top => rw [EReal.top_mul_coe_of_pos (by norm_num)] at h; exact absurd rfl h.ne.2
  | coe r => exact ⟨r, rfl⟩

/-- The variance is not negative. -/
theorem variance_nn (v : Fin 1024 → EReal) : 0 ≤ variance v := by
  unfold variance
  rw [div_nodes]
  exact mul_nonneg (Finset.sum_nonneg fun i _ => sq_nn _) (by exact_mod_cast (by norm_num : (0 : ℝ) ≤ 1 / 1024))

/-- The variance plus epsilon is positive. -/
theorem variance_eps_pos (v : Fin 1024 → EReal) : 0 < variance v + Ideal.ofBits .f32 0x3727C5AC#32 := by
  obtain ⟨e, he, h0⟩ := lit_eps
  rw [he]
  exact lt_of_lt_of_le (by exact_mod_cast h0) (le_add_of_nonneg_left (variance_nn v))

/-- The normalised column times a real scale is real: where the column holds an infinity, its variance is infinite and the
    normalised column zero. -/
theorem IsR.bn {g : EReal} (hg : IsR g) (v : Fin 1024 → EReal) (j : Fin 1024) :
    IsR ((g * (v j - mean v)) * Ideal.rsqrt (variance v + Ideal.ofBits .f32 0x3727C5AC#32)) := by
  obtain ⟨e, he, h0⟩ := lit_eps
  by_cases hm : IsR (mean v)
  · have hv : ∀ i, IsR (v i) := fun i => by
      unfold mean at hm
      rw [div_nodes] at hm
      exact hm.of_div_nodes.of_sum i (Finset.mem_univ i)
    have hp := rsqrt_nn _ (variance_eps_pos v)
    exact (hg.mul ((hv j).sub hm)).mul (IsR.of_ne (fun h => absurd hp.1 (by rw [h]; simp)) hp.2)
  · have hu : ∀ i, (v i - mean v) * (v i - mean v) = ⊤ := fun i => sq_inf fun h => hm h.of_sub
    have hs : ∑ i, (v i - mean v) * (v i - mean v) = ⊤ := by
      refine top_le_iff.1 ?_
      rw [← hu j]
      exact Finset.single_le_sum (f := fun i => (v i - mean v) * (v i - mean v)) (fun i _ => sq_nn _) (Finset.mem_univ j)
    have hvar : variance v = ⊤ := by
      unfold variance
      rw [div_nodes, hs, EReal.top_mul_coe_of_pos (by norm_num)]
    rw [hvar, he, EReal.top_add_coe, Ideal.rsqrt_top, mul_zero]
    exact IsR.zero

end Cert.Gnn

end
-- ==== Proof.Edges.lean ====
/- The reference's edge list: one edge for every pair of nodes, row by row, then one self loop per node. Its three arrays
   (source, target, weight) read at an edge, and a sum over all edges as the sum over the pairs plus the sum over the loops. -/
module

public import proofs.«01_k».proof.Proof.BatchNorm
public import proofs.«01_k».proof.Proof.Gen.ReferenceIdeal
public import Idealize.ShloMosaic.Lib.Routing.Ops
public import Idealize.ShloMosaic.Lib.Routing.OpsSet
public import Idealize.ShloMosaic.Lib.Routing.OpsPair

@[expose] public section

noncomputable section

namespace Cert.Gnn

open Idealize.ShloMosaic Cert.ReferenceIdeal Cert.ReferenceIdeal.Gen
open scoped BigOperators

/-- The position of the edge from node `i` to node `j`. -/
def edge (i j : Fin 1024) : Fin 1049600 := ⟨i.val * 1024 + j.val, by omega⟩

/-- The position of the self loop of node `j`. -/
def loop (j : Fin 1024) : Fin 1049600 := ⟨1048576 + j.val, by omega⟩

/-- A sum over `n * n + n` positions: the pairs row by row, then the last `n`. -/
theorem sum_pairs_tail {M : Type*} [AddCommMonoid M] (n N : Nat) (hN : n * n + n = N) (f : Fin N → M)
    (hp : ∀ i j : Fin n, i.val * n + j.val < N) (ht : ∀ j : Fin n, n * n + j.val < N) :
    ∑ e, f e = (∑ i : Fin n, ∑ j : Fin n, f ⟨i.val * n + j.val, hp i j⟩) + ∑ j : Fin n, f ⟨n * n + j.val, ht j⟩ := by
  subst hN
  rw [Fin.sum_univ_add, ← Equiv.sum_comp (finProdFinEquiv (m := n) (n := n)), Fintype.sum_prod_type]
  congr 1
  refine Finset.sum_congr rfl fun i _ => Finset.sum_congr rfl fun j _ => congrArg f (Fin.ext ?_)
  show j.val + n * i.val = i.val * n + j.val
  rw [Nat.mul_comm, Nat.add_comm]

/-- A sum over the edge list: the edges between pairs, then the self loops. -/
theorem sum_edges {M : Type*} [AddCommMonoid M] (f : Fin 1049600 → M) :
    ∑ e, f e = (∑ i, ∑ j, f (edge i j)) + ∑ j, f (loop j) :=
  sum_pairs_tail 1024 1049600 (by norm_num) f (fun i j => (edge i j).isLt) (fun j => (loop j).isLt)

/-- The nodes, in order. -/
abbrev nodes : IVec S1024 32 := iotaInDim S1024 32 0

/-- The source of every edge. -/
def srcs : IVec S1049600 32 :=
  concatenate S1049600 0 [⟨S1048576, (shapeCast _ (broadcastInDim S1024x1024 ![0] bcast_S1024_S1024x1024_0 nodes) shapeCasts_S1024x1024_S1048576)⟩, ⟨S1024, nodes⟩] concatenates_S1048576_S1024_S1049600_d0

/-- The target of every edge. -/
def tgts : IVec S1049600 32 :=
  concatenate S1049600 0 [⟨S1048576, (shapeCast _ (broadcastInDim S1024x1024 ![0, 1] bcast_S1x1024_S1024x1024_0_1 (shapeCast _ nodes shapeCasts_S1024_S1x1024)) shapeCasts_S1024x1024_S1048576)⟩, ⟨S1024, nodes⟩] concatenates_S1048576_S1024_S1049600_d0

/-- The weight of every edge: the dense weights, then one for each self loop. -/
def wts (E : FVec Ideal S1024x1024 .f32) : FVec Ideal S1049600 .f32 :=
  concatenate S1049600 0 [⟨S1048576, (shapeCast _ E shapeCasts_S1024x1024_S1048576)⟩, ⟨S1024, (broadcastInDim S1024 ![] bcast_S_S1024 (constant S_ .f32 0x3F800000#32))⟩] concatenates_S1048576_S1024_S1049600_d0

/-- A list of node numbers as scatter or gather indices, negative ones wrapped. -/
def wrapped (x : IVec S1049600 32) : IVec S1049600x1 32 :=
  broadcastInDim S1049600x1 ![0] bcast_S1049600_S1049600x1_0 (select (cmpi .slt x (broadcastInDim S1049600 ![] bcast_S_S1049600 (constantI S_ 32 0#32))) (addi x (broadcastInDim S1049600 ![] bcast_S_S1049600 (constantI S_ 32 1024#32))) x)

/-- Two arrays end to end, read at an edge between a pair: the first at that pair. -/
theorem concat_edge {α : Type} (x : S1024x1024.Idx → α) (y : S1024.Idx → α) (i j : Fin 1024) :
    concatenate S1049600 0 [⟨S1048576, (shapeCast S1048576 x shapeCasts_S1024x1024_S1048576)⟩, ⟨S1024, y⟩] concatenates_S1048576_S1024_S1049600_d0 (ix1 (edge i j)) = x (ix2 i j) := by
  have hlt : (edge i j).val < 1048576 := by show i.val * 1024 + j.val < 1048576; omega
  refine (concatenate_pair_apply _ _ _ _ _).trans ((dif_pos hlt).trans ?_)
  have hr : (edge i j).val / 1024 = i.val := by show (i.val * 1024 + j.val) / 1024 = _; omega
  have hm : (edge i j).val % 1024 = j.val := by show (i.val * 1024 + j.val) % 1024 = _; omega
  pointwise
  congr 1
  simp only [hr, hm]

/-- Two vectors end to end, read past the first: the second. -/
theorem concat_right {α : Type} {a b c : Nat} (x : (⟨1, ![a]⟩ : Shape).Idx → α) (y : (⟨1, ![b]⟩ : Shape).Idx → α)
    (h : Shape.Concatenates [(⟨1, ![a]⟩ : Shape), ⟨1, ![b]⟩] ⟨1, ![c]⟩ 0) (k : Fin c) (j : Fin b) (hk : k.val = a + j.val) :
    concatenate (⟨1, ![c]⟩ : Shape) 0 [⟨⟨1, ![a]⟩, x⟩, ⟨⟨1, ![b]⟩, y⟩] h (ix1 k) = y (ix1 j) := by
  have hge : ¬ k.val < a := by omega
  refine (concatenate_pair_apply _ _ _ _ _).trans ((dif_neg hge).trans ?_)
  refine congrArg y ?_
  rw [Shape.Idx.norm_def]
  funext d
  match d with
  | ⟨0, _⟩ => exact Fin.ext (by show k.val - a = j.val; omega)

/-- Two arrays end to end, read at a self loop: the second at that node. -/
theorem concat_loop {α : Type} (x : S1048576.Idx → α) (y : S1024.Idx → α) (j : Fin 1024) :
    concatenate S1049600 0 [⟨S1048576, x⟩, ⟨S1024, y⟩] concatenates_S1048576_S1024_S1049600_d0 (ix1 (loop j)) = y (ix1 j) :=
  concat_right x y _ (loop j) j rfl

/-- The source of an edge of the grid. -/
theorem srcs_edge (i j : Fin 1024) : srcs (ix1 (edge i j)) = BitVec.ofNat 32 i.val := by
  unfold srcs
  rw [concat_edge]
  pointwise

/-- The source of a self loop. -/
theorem srcs_loop (j : Fin 1024) : srcs (ix1 (loop j)) = BitVec.ofNat 32 j.val := by
  unfold srcs
  rw [concat_loop]
  rfl

/-- The target of an edge of the grid. -/
theorem tgts_edge (i j : Fin 1024) : tgts (ix1 (edge i j)) = BitVec.ofNat 32 j.val := by
  unfold tgts
  rw [concat_edge]
  pointwise

/-- The target of a self loop. -/
theorem tgts_loop (j : Fin 1024) : tgts (ix1 (loop j)) = BitVec.ofNat 32 j.val := by
  unfold tgts
  rw [concat_loop]
  rfl

/-- The weight of an edge of the grid. -/
theorem wts_edge (E : FVec Ideal S1024x1024 .f32) (i j : Fin 1024) : wts E (ix1 (edge i j)) = E (ix2 i j) := by
  unfold wts
  rw [concat_edge]

/-- The weight of a self loop. -/
theorem wts_loop (E : FVec Ideal S1024x1024 .f32) (j : Fin 1024) : wts E (ix1 (loop j)) = 1 := by
  unfold wts
  rw [concat_loop]
  pointwise

/-- Wrapping leaves a node number as it is. -/
theorem wrapped_apply (x : IVec S1049600 32) (e : Fin 1049600) (b : Fin 1024) (h : x (ix1 e) = BitVec.ofNat 32 b.val) :
    wrapped x (ix2 e 0) = BitVec.ofNat 32 b.val := by
  unfold wrapped
  pointwise
  rw [h]
  refine Routing.wrap_of_lt _ _ ?_
  rw [BitVec.toNat_ofNat]
  have := b.isLt
  omega

end Cert.Gnn

end
-- ==== Proof.Scatter.lean ====
/- The reference's two accumulating scatters over the edge list read at an entry: the sum of what the edges into that node
   carry, the self loop's own included. -/
module

public import proofs.«01_k».proof.Proof.Edges

@[expose] public section

noncomputable section

namespace Cert.Gnn

open Idealize.ShloMosaic Cert.ReferenceIdeal Cert.ReferenceIdeal.Gen
open scoped BigOperators

/-- Where an update of the vector scatter starts: at its index word. -/
theorem scatter1_start (idx : IVec S1049600x1 32) (e : Fin 1049600) :
    scatter_S1024_S1049600x1_S1049600_n_0_0_1.start (ix1 e) idx 0 = (idx (ix2 e 0)).toInt := by
  unfold ScatterDims.start
  refine (dif_pos (List.mem_singleton.mpr rfl)).trans (congrArg (fun q => (idx q).toInt) (funext fun b => Fin.ext ?_))
  match b with
  | ⟨0, _⟩ => rfl
  | ⟨1, _⟩ => rfl

/-- The vector scatter has no window. -/
theorem scatter1_window (e : Fin 1049600) : scatter_S1024_S1049600x1_S1049600_n_0_0_1.window (ix1 e) 0 = 0 := by
  unfold ScatterDims.window
  rw [dif_neg fun h => (of_decide_eq_true (List.mem_filter.1 h).2) (List.mem_singleton.mpr rfl)]

/-- An update of the vector scatter lands at the node its index word names. -/
theorem scatter1_lands (idx : IVec S1049600x1 32) (e : Fin 1049600) (j : Fin 1024) :
    scatter_S1024_S1049600x1_S1049600_n_0_0_1.resultIdx? (ix1 e) idx = some (ix1 j) ↔ (idx (ix2 e 0)).toInt = (j.val : Int) := by
  rw [Routing.resultIdx?_eq_some]
  constructor
  · intro h
    have h0 := h 0
    rw [scatter1_start, scatter1_window] at h0
    simpa using h0
  · intro h a
    match a with
    | ⟨0, _⟩ =>
      show scatter_S1024_S1049600x1_S1049600_n_0_0_1.start (ix1 e) idx 0 + (scatter_S1024_S1049600x1_S1049600_n_0_0_1.window (ix1 e) 0 : Int) = (j.val : Int)
      rw [scatter1_start, scatter1_window, h]
      simp

/-- Where an update of the row scatter starts on the row axis: at its index word. -/
theorem scatter2_start0 (idx : IVec S1049600x1 32) (e : Fin 1049600) (k : Fin 64) :
    scatter_S1024x64_S1049600x1_S1049600x64_1_0_0_1.start (ix2 e k) idx 0 = (idx (ix2 e 0)).toInt := by
  unfold ScatterDims.start
  refine (dif_pos (List.mem_singleton.mpr rfl)).trans (congrArg (fun q => (idx q).toInt) (funext fun b => Fin.ext ?_))
  match b with
  | ⟨0, _⟩ => rfl
  | ⟨1, _⟩ => rfl

/-- Where an update of the row scatter starts on the column axis: at zero. -/
theorem scatter2_start1 (idx : IVec S1049600x1 32) (e : Fin 1049600) (k : Fin 64) :
    scatter_S1024x64_S1049600x1_S1049600x64_1_0_0_1.start (ix2 e k) idx 1 = 0 := by
  unfold ScatterDims.start
  rw [dif_neg fun h => by simpa using List.mem_singleton.mp h]

/-- The row scatter's window is one row. -/
theorem scatter2_window0 (e : Fin 1049600) (k : Fin 64) :
    scatter_S1024x64_S1049600x1_S1049600x64_1_0_0_1.window (ix2 e k) 0 = 0 := by
  unfold ScatterDims.window
  rw [dif_neg fun h => (of_decide_eq_true (List.mem_filter.1 h).2) (List.mem_singleton.mpr rfl)]

/-- The row scatter's window coordinate is the update's column. -/
theorem scatter2_window1 (e : Fin 1049600) (k : Fin 64) :
    scatter_S1024x64_S1049600x1_S1049600x64_1_0_0_1.window (ix2 e k) 1 = k.val := by
  unfold ScatterDims.window
  exact dif_pos (List.mem_filter.2 ⟨List.mem_finRange _, by decide⟩)

/-- An update of the row scatter lands in its own column of the row its index word names. -/
theorem scatter2_lands (idx : IVec S1049600x1 32) (e : Fin 1049600) (l k : Fin 64) (j : Fin 1024) :
    scatter_S1024x64_S1049600x1_S1049600x64_1_0_0_1.resultIdx? (ix2 e l) idx = some (ix2 j k)
      ↔ (idx (ix2 e 0)).toInt = (j.val : Int) ∧ l = k := by
  rw [Routing.resultIdx?_eq_some]
  constructor
  · intro h
    have h0 := h 0
    have h1 := h 1
    rw [scatter2_start0, scatter2_window0] at h0
    rw [scatter2_start1, scatter2_window1] at h1
    refine ⟨by simpa using h0, Fin.ext ?_⟩
    have h2 : (0 : Int) + (l.val : Int) = (k.val : Int) := h1
    omega
  · rintro ⟨h, rfl⟩ a
    match a with
    | ⟨0, _⟩ =>
      show scatter_S1024x64_S1049600x1_S1049600x64_1_0_0_1.start (ix2 e l) idx 0 + (scatter_S1024x64_S1049600x1_S1049600x64_1_0_0_1.window (ix2 e l) 0 : Int) = (j.val : Int)
      rw [scatter2_start0, scatter2_window0, h]
      simp
    | ⟨1, _⟩ =>
      show scatter_S1024x64_S1049600x1_S1049600x64_1_0_0_1.start (ix2 e l) idx 1 + (scatter_S1024x64_S1049600x1_S1049600x64_1_0_0_1.window (ix2 e l) 1 : Int) = (l.val : Int)
      rw [scatter2_start1, scatter2_window1]
      simp

/-- A small word read signed is its number. -/
theorem toInt_node (b j : Fin 1024) : (BitVec.ofNat 32 b.val).toInt = (j.val : Int) ↔ b = j := by
  rw [StableHlo.Predicate.toInt_ofNat_small _ (by have := b.isLt; omega)]
  constructor
  · intro h; exact Fin.ext (by exact_mod_cast h)
  · rintro rfl; rfl

/-- The target words, wrapped, at an edge between a pair. -/
theorem wtgt_edge (i j : Fin 1024) : wrapped tgts (ix2 (edge i j) 0) = BitVec.ofNat 32 j.val := wrapped_apply _ _ _ (tgts_edge i j)
/-- The target words, wrapped, at a self loop. -/
theorem wtgt_loop (j : Fin 1024) : wrapped tgts (ix2 (loop j) 0) = BitVec.ofNat 32 j.val := wrapped_apply _ _ _ (tgts_loop j)
/-- The source words, wrapped, at an edge between a pair. -/
theorem wsrc_edge (i j : Fin 1024) : wrapped srcs (ix2 (edge i j) 0) = BitVec.ofNat 32 i.val := wrapped_apply _ _ _ (srcs_edge i j)
/-- The source words, wrapped, at a self loop. -/
theorem wsrc_loop (j : Fin 1024) : wrapped srcs (ix2 (loop j) 0) = BitVec.ofNat 32 j.val := wrapped_apply _ _ _ (srcs_loop j)

/-- Of the edges, those into node `j`: one from every node, and the self loop. -/
theorem sum_into (f : Fin 1049600 → EReal) (j : Fin 1024) :
    (∑ e, if (wrapped tgts (ix2 e 0)).toInt = (j.val : Int) then f e else 0) = (∑ i, f (edge i j)) + f (loop j) := by
  rw [sum_edges]
  congr 1
  · refine Finset.sum_congr rfl fun i _ => ?_
    simp only [wtgt_edge, toInt_node]
    rw [Finset.sum_ite_eq' Finset.univ j (fun j' => f (edge i j')), if_pos (Finset.mem_univ _)]
  · simp only [wtgt_loop, toInt_node]
    rw [Finset.sum_ite_eq' Finset.univ j (fun j' => f (loop j')), if_pos (Finset.mem_univ _)]

/-- The vector scatter over the edge list, onto zeros, at node `j`. -/
theorem scatter1_apply (upd : FVec Ideal S1049600 .f32) (x : FVec Ideal S1024 .f32) (j : Fin 1024) (hx : x (ix1 j) = 0) :
    Host.scatterAdd scatter_S1024_S1049600x1_S1049600_n_0_0_1 x (wrapped tgts) upd (ix1 j)
      = (∑ i, upd (ix1 (edge i j))) + upd (ix1 (loop j)) := by
  show x (ix1 j) + ∑ q ∈ Finset.univ.filter (fun q => scatter_S1024_S1049600x1_S1049600_n_0_0_1.resultIdx? q (wrapped tgts) = some (ix1 j)), upd q = _
  rw [hx, zero_add, Finset.sum_filter, sum_idx1]
  simp only [scatter1_lands]
  exact sum_into (fun e => upd (ix1 e)) j

/-- The row scatter over the edge list, onto zeros, at node `j` and column `k`. -/
theorem scatter2_apply (upd : FVec Ideal S1049600x64 .f32) (x : FVec Ideal S1024x64 .f32) (j : Fin 1024) (k : Fin 64) (hx : x (ix2 j k) = 0) :
    Host.scatterAdd scatter_S1024x64_S1049600x1_S1049600x64_1_0_0_1 x (wrapped tgts) upd (ix2 j k)
      = (∑ i, upd (ix2 (edge i j) k)) + upd (ix2 (loop j) k) := by
  show x (ix2 j k) + ∑ q ∈ Finset.univ.filter (fun q => scatter_S1024x64_S1049600x1_S1049600x64_1_0_0_1.resultIdx? q (wrapped tgts) = some (ix2 j k)), upd q = _
  rw [hx, zero_add, Finset.sum_filter, sum_idx2]
  refine Eq.trans (Finset.sum_congr rfl fun e _ => ?_) (sum_into (fun e => upd (ix2 e k)) j)
  simp only [scatter2_lands]
  by_cases h : (wrapped tgts (ix2 e 0)).toInt = (j.val : Int)
  · simp only [h, true_and, if_true]
    rw [Finset.sum_ite_eq' Finset.univ k (fun l => upd (ix2 e l)), if_pos (Finset.mem_univ _)]
  · simp only [h, false_and, if_false, Finset.sum_const_zero]

end Cert.Gnn

end
-- ==== Proof.RefConv.lean ====
/- The reference's graph convolution, over its edge list, read at an entry: every node's normalised sum over the nodes. -/
module

public import proofs.«01_k».proof.Proof.Scatter
public import proofs.«01_k».proof.Proof.Literals
public import Idealize.ShloMosaic.Lib.Pointwise

@[expose] public section

noncomputable section

namespace Cert.Gnn

open Idealize.ShloMosaic Cert.ReferenceIdeal Cert.ReferenceIdeal.Gen
open scoped BigOperators

/-- The degree of node `j`: the weights of the edges into it, and one for its self loop. -/
def deg (E : FVec Ideal S1024x1024 .f32) (j : Fin 1024) : EReal := (∑ i, E (ix2 i j)) + 1

/-- The normalising factor of node `j`. -/
def dinv (E : FVec Ideal S1024x1024 .f32) (j : Fin 1024) : EReal := Ideal.rsqrt (deg E j)

/-- A dense layer's entry. -/
def lin (x : FVec Ideal S1024x64 .f32) (W : FVec Ideal S64x64 .f32) (j : Fin 1024) (k : Fin 64) : EReal :=
  ∑ l : Fin 64, x (ix2 j l) * W (ix2 l k)

/-- The graph convolution's entry over the dense weights. -/
def conv (E : FVec Ideal S1024x1024 .f32) (y : Fin 1024 → Fin 64 → EReal) (b : FVec Ideal S64 .f32) (j : Fin 1024) (k : Fin 64) : EReal :=
  dinv E j * ((∑ i, E (ix2 i j) * (dinv E i * y i k)) + dinv E j * y j k) + b (ix1 k)

/-- The degrees the reference accumulates. -/
def refDeg (E : FVec Ideal S1024x1024 .f32) : FVec Ideal S1024 .f32 :=
  Host.scatterAdd scatter_S1024_S1049600x1_S1049600_n_0_0_1 (broadcastInDim S1024 ![] bcast_S_S1024 (constant S_ .f32 0x00000000#32)) (wrapped tgts) (wts E)

/-- The normalising factors the reference computes. -/
def refDinv (E : FVec Ideal S1024x1024 .f32) : FVec Ideal S1024 .f32 :=
  select (cmpf .ogt (refDeg E) (broadcastInDim S1024 ![] bcast_S_S1024 (constant S_ .f32 0x00000000#32)))
    (Host.divf (broadcastInDim S1024 ![] bcast_S_S1024 (constant S_ .f32 0x3F800000#32)) (Host.sqrt (refDeg E)))
    (broadcastInDim S1024 ![] bcast_S_S1024 (id (constant S_ .f32 0x00000000#32)))

/-- The normalised weight of every edge. -/
def refNorm (E : FVec Ideal S1024x1024 .f32) : FVec Ideal S1049600 .f32 :=
  mulf (mulf (Host.gather gather_S1024_S1049600x1_S1049600_n_0_n_n_0_1_1 (refDinv E) (wrapped srcs)) (wts E))
    (Host.gather gather_S1024_S1049600x1_S1049600_n_0_n_n_0_1_1 (refDinv E) (wrapped tgts))

/-- The messages along the edges. -/
def refMsgs (E : FVec Ideal S1024x1024 .f32) (x : FVec Ideal S1024x64 .f32) (W : FVec Ideal S64x64 .f32) : FVec Ideal S1049600x64 .f32 :=
  mulf (broadcastInDim S1049600x64 ![0, 1] bcast_S1049600x1_S1049600x64_0_1 (broadcastInDim S1049600x1 ![0] bcast_S1049600_S1049600x1_0 (refNorm E)))
    (Host.gather gather_S1024x64_S1049600x1_S1049600x64_1_0_n_n_0_1_164 (Host.dotGeneral dot_S1024x64_S64x64_S1024x64_1_0_0_1_n_n none x W) (wrapped srcs))

/-- The reference's graph convolution. -/
def refConv (E : FVec Ideal S1024x1024 .f32) (x : FVec Ideal S1024x64 .f32) (W : FVec Ideal S64x64 .f32) (b : FVec Ideal S64 .f32) : FVec Ideal S1024x64 .f32 :=
  addf (Host.scatterAdd scatter_S1024x64_S1049600x1_S1049600x64_1_0_0_1 (broadcastInDim S1024x64 ![] bcast_S_S1024x64 (constant S_ .f32 0x00000000#32)) (wrapped tgts) (refMsgs E x W))
    (broadcastInDim S1024x64 ![0, 1] bcast_S1x64_S1024x64_0_1 (broadcastInDim S1x64 ![1] bcast_S64_S1x64_1 b))

/-- A product of arrays at an entry. -/
theorem mulf_at {s : Shape} (a b : FVec Ideal s .f32) (i : s.Idx) : mulf a b i = a i * b i := rfl

/-- A sum of arrays at an entry. -/
theorem addf_at {s : Shape} (a b : FVec Ideal s .f32) (i : s.Idx) : addf a b i = a i + b i := rfl

/-- The guarded reciprocal root of a positive degree is its reciprocal root. -/
theorem guarded_apply (D : FVec Ideal S1024 .f32) (j : Fin 1024) (h : 0 < D (ix1 j)) :
    select (cmpf .ogt D (broadcastInDim S1024 ![] bcast_S_S1024 (constant S_ .f32 0x00000000#32)))
      (Host.divf (broadcastInDim S1024 ![] bcast_S_S1024 (constant S_ .f32 0x3F800000#32)) (Host.sqrt D))
      (broadcastInDim S1024 ![] bcast_S_S1024 (id (constant S_ .f32 0x00000000#32))) (ix1 j) = Ideal.rsqrt (D (ix1 j)) := by
  pointwise []
  rw [rsqrt_eq_div _ h]
  simp [h]

/-- A bias spread over the rows. -/
theorem spread_bias (b : FVec Ideal S64 .f32) (j : Fin 1024) (k : Fin 64) :
    broadcastInDim S1024x64 ![0, 1] bcast_S1x64_S1024x64_0_1 (broadcastInDim S1x64 ![1] bcast_S64_S1x64_1 b) (ix2 j k) = b (ix1 k) := by
  pointwise []

/-- An array of zeros. -/
theorem zeros1 (j : Fin 1024) : broadcastInDim S1024 ![] bcast_S_S1024 (constant (F := Ideal) S_ .f32 0x00000000#32) (ix1 j) = 0 := by
  pointwise []

/-- A matrix of zeros. -/
theorem zeros2 (j : Fin 1024) (k : Fin 64) :
    broadcastInDim S1024x64 ![] bcast_S_S1024x64 (constant (F := Ideal) S_ .f32 0x00000000#32) (ix2 j k) = 0 := by
  pointwise []

/-- The host's dense layer at an entry. -/
theorem refLin (x : FVec Ideal S1024x64 .f32) (W : FVec Ideal S64x64 .f32) (j : Fin 1024) (k : Fin 64) :
    Host.dotGeneral dot_S1024x64_S64x64_S1024x64_1_0_0_1_n_n none x W (ix2 j k) = lin x W j k := by
  unfold lin
  pointwise []

/-- The accumulated degree of a node. -/
theorem refDeg_apply (E : FVec Ideal S1024x1024 .f32) (j : Fin 1024) : refDeg E (ix1 j) = deg E j := by
  unfold refDeg
  rw [scatter1_apply _ _ _ (zeros1 j)]
  simp only [wts_edge, wts_loop]
  rfl

/-- The reference's factor of a node of positive degree. -/
theorem refDinv_apply (E : FVec Ideal S1024x1024 .f32) (j : Fin 1024) (h : 0 < deg E j) : refDinv E (ix1 j) = dinv E j := by
  rw [refDinv, guarded_apply _ _ (by rw [refDeg_apply]; exact h), refDeg_apply, dinv]

/-- A gather of node entries along an edge list, at an edge. -/
theorem gather1_apply (x : FVec Ideal S1024 .f32) (idx : IVec S1049600x1 32) (e : Fin 1049600) (b : Fin 1024)
    (h : idx (ix2 e 0) = BitVec.ofNat 32 b.val) :
    Host.gather gather_S1024_S1049600x1_S1049600_n_0_n_n_0_1_1 x idx (ix1 e) = x (ix1 b) := by
  simp only [ix1_eq_valueIdx, ix2_eq_valueIdx] at h ⊢
  exact Routing.gather_take1 gather_S1024_S1049600x1_S1049600_n_0_n_n_0_1_1 rfl rfl rfl rfl x idx e b h (by norm_num)

/-- A gather of node rows along an edge list, at an edge. -/
theorem gather2_apply (x : FVec Ideal S1024x64 .f32) (idx : IVec S1049600x1 32) (e : Fin 1049600) (k : Fin 64) (b : Fin 1024)
    (h : idx (ix2 e 0) = BitVec.ofNat 32 b.val) :
    Host.gather gather_S1024x64_S1049600x1_S1049600x64_1_0_n_n_0_1_164 x idx (ix2 e k) = x (ix2 b k) := by
  simp only [ix2_eq_valueIdx] at h ⊢
  exact Routing.gather_row gather_S1024x64_S1049600x1_S1049600x64_1_0_n_n_0_1_164 rfl rfl rfl rfl rfl x idx e k b h (by norm_num)

/-- The normalised weight of the edge between a pair. -/
theorem refNorm_edge (E : FVec Ideal S1024x1024 .f32) (i j : Fin 1024) (hi : 0 < deg E i) (hj : 0 < deg E j) :
    refNorm E (ix1 (edge i j)) = (dinv E i * E (ix2 i j)) * dinv E j := by
  rw [refNorm, mulf_at, mulf_at, gather1_apply _ _ _ _ (wsrc_edge i j), gather1_apply _ _ _ _ (wtgt_edge i j), wts_edge, refDinv_apply E i hi, refDinv_apply E j hj]

/-- The normalised weight of a self loop. -/
theorem refNorm_loop (E : FVec Ideal S1024x1024 .f32) (j : Fin 1024) (hj : 0 < deg E j) :
    refNorm E (ix1 (loop j)) = dinv E j * dinv E j := by
  rw [refNorm, mulf_at, mulf_at, gather1_apply _ _ _ _ (wsrc_loop j), gather1_apply _ _ _ _ (wtgt_loop j), wts_loop, refDinv_apply E j hj, mul_one]

/-- A column of entries spread along its rows. -/
theorem spread_rows {N K : Nat} (hN : N ≠ 1) (h1 : (⟨1, ![N]⟩ : Shape).BroadcastsInDim ⟨2, ![N, 1]⟩ ![0])
    (h2 : (⟨2, ![N, 1]⟩ : Shape).BroadcastsInDim ⟨2, ![N, K]⟩ ![0, 1]) (v : (⟨1, ![N]⟩ : Shape).Idx → EReal) (e : Fin N) (k : Fin K) :
    broadcastInDim ⟨2, ![N, K]⟩ ![0, 1] h2 (broadcastInDim ⟨2, ![N, 1]⟩ ![0] h1 v) (ix2 e k) = v (ix1 e) := by
  refine (broadcastInDim_apply _ _ _ _ (ix2 e 0) fun a => ?_).trans (broadcastInDim_apply _ _ _ _ (ix1 e) fun a => ?_)
  · match a with
    | ⟨0, _⟩ => exact (if_neg hN).symm
    | ⟨1, _⟩ => exact (if_pos rfl).symm
  · match a with
    | ⟨0, _⟩ => exact (if_neg hN).symm

/-- The message along the edge between a pair. -/
theorem refMsgs_apply (E : FVec Ideal S1024x1024 .f32) (x : FVec Ideal S1024x64 .f32) (W : FVec Ideal S64x64 .f32) (e : Fin 1049600) (k : Fin 64) (b : Fin 1024)
    (h : wrapped srcs (ix2 e 0) = BitVec.ofNat 32 b.val) : refMsgs E x W (ix2 e k) = refNorm E (ix1 e) * lin x W b k := by
  rw [refMsgs, mulf_at, gather2_apply _ _ _ _ _ h, refLin]
  rw [spread_rows (N := 1049600) (K := 64) (by norm_num) bcast_S1049600_S1049600x1_0 bcast_S1049600x1_S1049600x64_0_1 (refNorm E) e k]

/-- The reference's convolution at an entry, when every degree is positive. -/
theorem refConv_apply (E : FVec Ideal S1024x1024 .f32) (x : FVec Ideal S1024x64 .f32) (W : FVec Ideal S64x64 .f32) (b : FVec Ideal S64 .f32)
    (h : ∀ j, 0 < deg E j) (j : Fin 1024) (k : Fin 64) : refConv E x W b (ix2 j k) = conv E (lin x W) b j k := by
  rw [refConv, addf_at, scatter2_apply _ _ _ _ (zeros2 j k), spread_bias, conv]
  rw [refMsgs_apply _ _ _ _ _ _ (wsrc_loop j), refNorm_loop E j (h j)]
  obtain ⟨h0, ht⟩ := rsqrt_nn _ (h j)
  rw [show Ideal.rsqrt (deg E j) = dinv E j from rfl] at h0 ht
  rw [nn_mul_add h0 ht, nn_mul_sum h0 ht]
  have hm : ∀ i, refMsgs E x W (ix2 (edge i j) k) = dinv E j * (E (ix2 i j) * (dinv E i * lin x W i k)) := fun i => by
    rw [refMsgs_apply _ _ _ _ _ _ (wsrc_edge i j), refNorm_edge E i j (h i) (h j)]
    ac_rfl
  simp only [hm, mul_assoc]

end Cert.Gnn

end
-- ==== Proof.RefGraph.lean ====
/- The reference's two graph layers: convolution, batch norm over the nodes, leaky relu, the second with its residual. -/
module

public import proofs.«01_k».proof.Proof.RefConv

@[expose] public section

noncomputable section

namespace Cert.Gnn

open Idealize.ShloMosaic Cert.ReferenceIdeal Cert.ReferenceIdeal.Gen
open scoped BigOperators

/-- A scaled, normalised column without its shift. -/
def bnScale (v : Fin 1024 → Fin 64 → EReal) (g : FVec Ideal S64 .f32) (j : Fin 1024) (k : Fin 64) : EReal :=
  (g (ix1 k) * (v j k - mean fun i => v i k)) * Ideal.rsqrt ((variance fun i => v i k) + Ideal.ofBits .f32 0x3727C5AC#32)

/-- A batch norm's entry. -/
def bn (v : Fin 1024 → Fin 64 → EReal) (g be : FVec Ideal S64 .f32) (j : Fin 1024) (k : Fin 64) : EReal :=
  bnScale v g j k + be (ix1 k)

/-- The first layer's features. -/
def feat1 (E : FVec Ideal S1024x1024 .f32) (x : FVec Ideal S1024x64 .f32) (W1 : FVec Ideal S64x64 .f32) (b1 g1 be1 : FVec Ideal S64 .f32)
    (j : Fin 1024) (k : Fin 64) : EReal := leaky (bn (conv E (lin x W1) b1) g1 be1 j k)

/-- The column means of the reference. -/
def refMean (v : FVec Ideal S1024x64 .f32) : FVec Ideal S64 .f32 :=
  Host.divf (Host.reduceAdd v (constant S_ .f32 0x00000000#32) reducesTo_S1024x64_S64_d0 h_S_) (broadcastInDim S64 ![] bcast_S_S64 (constant S_ .f32 0x44800000#32))

/-- The deviations inside the reference's variance. -/
def refDev (v : FVec Ideal S1024x64 .f32) : FVec Ideal S1024x64 .f32 :=
  subf v (broadcastInDim S1024x64 ![0, 1] bcast_S1x64_S1024x64_0_1 (Host.divf (broadcastInDim S1x64 ![1] bcast_S64_S1x64_1 (Host.reduceAdd v (constant S_ .f32 0x00000000#32) reducesTo_S1024x64_S64_d0 h_S_)) (broadcastInDim S1x64 ![] bcast_S_S1x64 (constant S_ .f32 0x44800000#32))))

/-- The number the reference's variance divides by. -/
def refCount : FVec Ideal S_ .f32 := subf (constant S_ .f32 0x44800000#32) (sitofp .f32 (constantI S_ 32 0#32))

/-- The reference's column variances. -/
def refVar (v : FVec Ideal S1024x64 .f32) : FVec Ideal S64 .f32 :=
  select (broadcastInDim S64 ![] bcast_S_S64 (cmpf .ogt refCount (constant S_ .f32 0x00000000#32)))
    (Host.divf (Host.reduceAdd (mulf (refDev v) (refDev v)) (constant S_ .f32 0x00000000#32) reducesTo_S1024x64_S64_d0 h_S_) (broadcastInDim S64 ![] bcast_S_S64 refCount))
    (broadcastInDim S64 ![] bcast_S_S64 (id (constant S_ .f32 0x7FC00000#32)))

/-- A vector over the columns spread over the rows. -/
abbrev rows (b : FVec Ideal S64 .f32) : FVec Ideal S1024x64 .f32 :=
  broadcastInDim S1024x64 ![0, 1] bcast_S1x64_S1024x64_0_1 (broadcastInDim S1x64 ![1] bcast_S64_S1x64_1 b)

/-- The reference's batch norm. -/
def refBn (v : FVec Ideal S1024x64 .f32) (g be : FVec Ideal S64 .f32) : FVec Ideal S1024x64 .f32 :=
  addf (Host.divf (mulf (rows g) (subf v (rows (refMean v))))
    (rows (Host.sqrt (addf (refVar v) (broadcastInDim S64 ![] bcast_S_S64 (constant S_ .f32 0x3727C5AC#32)))))) (rows be)

/-- The reference's leaky relu over a feature matrix. -/
def refLeaky (v : FVec Ideal S1024x64 .f32) : FVec Ideal S1024x64 .f32 :=
  select (cmpf .ogt v (broadcastInDim S1024x64 ![] bcast_S_S1024x64 (constant S_ .f32 0x00000000#32))) v
    (mulf (broadcastInDim S1024x64 ![] bcast_S_S1024x64 (constant S_ .f32 0x3C23D70A#32)) v)

/-- The reference's first layer. -/
def refFeat1 (E : FVec Ideal S1024x1024 .f32) (x : FVec Ideal S1024x64 .f32) (W1 : FVec Ideal S64x64 .f32) (b1 g1 be1 : FVec Ideal S64 .f32) : FVec Ideal S1024x64 .f32 :=
  refLeaky (refBn (refConv E x W1 b1) g1 be1)

/-- The reference's second layer, from the first layer's features. -/
def refFeat2 (E : FVec Ideal S1024x1024 .f32) (x1 : FVec Ideal S1024x64 .f32) (W2 : FVec Ideal S64x64 .f32) (b2 g2 be2 : FVec Ideal S64 .f32) : FVec Ideal S1024x64 .f32 :=
  refLeaky (addf (refBn (refConv E x1 W2 b2) g2 be2) x1)

/-- The reference's mean at a column. -/
theorem refMean_apply (v : FVec Ideal S1024x64 .f32) (k : Fin 64) : refMean v (ix1 k) = mean fun i => v (ix2 i k) := by
  unfold refMean mean
  pointwise []

/-- The reference's deviation at an entry. -/
theorem refDev_apply (v : FVec Ideal S1024x64 .f32) (j : Fin 1024) (k : Fin 64) :
    refDev v (ix2 j k) = v (ix2 j k) - mean fun i => v (ix2 i k) := by
  unfold refDev mean
  pointwise []

/-- The reference divides its variance by the number of nodes. -/
theorem refCount_apply (i : S_.Idx) : refCount i = Ideal.ofBits .f32 0x44800000#32 := by
  show Ideal.ofBits .f32 0x44800000#32 - (((0#32 : BitVec 32).toInt : ℝ) : EReal) = _
  simp

/-- The reference's variance at a column. -/
theorem refVar_apply (v : FVec Ideal S1024x64 .f32) (k : Fin 64) : refVar v (ix1 k) = variance fun i => v (ix2 i k) := by
  unfold refVar variance
  pointwise [refDev_apply, refCount_apply]
  rw [lit_nodes]
  simp

/-- The reference's batch norm at an entry. -/
theorem refBn_apply (v : FVec Ideal S1024x64 .f32) (g be : FVec Ideal S64 .f32) (j : Fin 1024) (k : Fin 64) :
    refBn v g be (ix2 j k) = bn (fun j k => v (ix2 j k)) g be j k := by
  unfold refBn bn bnScale
  pointwise [refMean_apply, refVar_apply]
  rw [mul_rsqrt_eq_div _ _ (variance_eps_pos _)]

/-- The reference's leaky relu at an entry. -/
theorem refLeaky_apply (v : FVec Ideal S1024x64 .f32) (j : Fin 1024) (k : Fin 64) : refLeaky v (ix2 j k) = leaky (v (ix2 j k)) := by
  rw [leaky_eq]
  unfold refLeaky
  pointwise []

/-- The reference's first layer at an entry. -/
theorem refFeat1_apply (E : FVec Ideal S1024x1024 .f32) (x : FVec Ideal S1024x64 .f32) (W1 : FVec Ideal S64x64 .f32) (b1 g1 be1 : FVec Ideal S64 .f32)
    (h : ∀ j, 0 < deg E j) (j : Fin 1024) (k : Fin 64) : refFeat1 E x W1 b1 g1 be1 (ix2 j k) = feat1 E x W1 b1 g1 be1 j k := by
  unfold refFeat1 feat1
  rw [refLeaky_apply, refBn_apply]
  simp only [refConv_apply _ _ _ _ h]

/-- The reference's second layer at an entry. -/
theorem refFeat2_apply (E : FVec Ideal S1024x1024 .f32) (x1 : FVec Ideal S1024x64 .f32) (W2 : FVec Ideal S64x64 .f32) (b2 g2 be2 : FVec Ideal S64 .f32)
    (h : ∀ j, 0 < deg E j) (j : Fin 1024) (k : Fin 64) :
    refFeat2 E x1 W2 b2 g2 be2 (ix2 j k) = leaky (bn (conv E (lin x1 W2) b2) g2 be2 j k + x1 (ix2 j k)) := by
  unfold refFeat2
  rw [refLeaky_apply, addf_at, refBn_apply]
  simp only [refConv_apply _ _ _ _ h]

/-- A batch norm with a real scale and shift is real, whatever it normalises. -/
theorem IsR.bn_entry (v : Fin 1024 → Fin 64 → EReal) (g be : FVec Ideal S64 .f32) (hg : ∀ k, IsR (g (ix1 k))) (hb : ∀ k, IsR (be (ix1 k)))
    (j : Fin 1024) (k : Fin 64) : IsR (Gnn.bn v g be j k) :=
  IsR.add (IsR.bn (hg k) (fun i => v i k) j) (hb k)

end Cert.Gnn

end
-- ==== Proof.Attend.lean ====
/- One softmax attention of a query over the nodes' features: scores, their maximum, weights, total; all real and the total
   positive when query and features are real. And the two ways to feed the attended features to the next gates. -/
module

public import proofs.«01_k».proof.Proof.Scalars

@[expose] public section

noncomputable section

namespace Cert.Gnn

open Idealize.ShloMosaic
open scoped BigOperators

/-- A node's score against the query. -/
def score (x : Fin 1024 → Fin 64 → EReal) (h : Fin 64 → EReal) (j : Fin 1024) : EReal := ∑ k, h k * x j k

/-- The largest score. -/
def top (x : Fin 1024 → Fin 64 → EReal) (h : Fin 64 → EReal) : EReal := Finset.univ.fold max ⊥ (score x h)

/-- A node's weight before normalising. -/
def wgt (x : Fin 1024 → Fin 64 → EReal) (h : Fin 64 → EReal) (j : Fin 1024) : EReal := Ideal.exp (score x h j - top x h)

/-- The weights' total. -/
def tot (x : Fin 1024 → Fin 64 → EReal) (h : Fin 64 → EReal) : EReal := ∑ j, wgt x h j

/-- A maximum of reals over a nonempty set is real. -/
theorem IsR.foldMax {n : Nat} (s : Finset (Fin n)) (f : Fin n → EReal) (hf : ∀ i, IsR (f i)) : s = ∅ ∨ IsR (s.fold Max.max ⊥ f) := by
  induction s using Finset.induction_on with
  | empty => exact Or.inl rfl
  | insert a s ha ih =>
    right
    rw [Finset.fold_insert ha]
    rcases ih with rfl | h
    · rw [Finset.fold_empty, max_eq_left bot_le]; exact hf a
    · exact IsR.max (hf a) h

/-- A weight is a positive real. -/
theorem wgt_pos (x : Fin 1024 → Fin 64 → EReal) (h : Fin 64 → EReal) (hx : ∀ j k, IsR (x j k)) (hh : ∀ k, IsR (h k)) (j : Fin 1024) :
    ∃ r : ℝ, wgt x h j = ↑r ∧ 0 < r := by
  have hs : ∀ j, IsR (score x h j) := fun j => IsR.sum fun k _ => IsR.mul (hh k) (hx j k)
  have ht : IsR (top x h) := (IsR.foldMax Finset.univ (score x h) hs).resolve_left (Finset.univ_nonempty.ne_empty)
  obtain ⟨r, hr⟩ := IsR.sub (hs j) ht
  exact ⟨Real.exp r, by rw [wgt, hr]; rfl, Real.exp_pos r⟩

/-- The total is a positive real. -/
theorem tot_pos (x : Fin 1024 → Fin 64 → EReal) (h : Fin 64 → EReal) (hx : ∀ j k, IsR (x j k)) (hh : ∀ k, IsR (h k)) :
    ∃ r : ℝ, tot x h = ↑r ∧ r ≠ 0 := by
  choose f hf hp using wgt_pos x h hx hh
  refine ⟨∑ j, f j, ?_, (Finset.sum_pos (fun j _ => hp j) Finset.univ_nonempty).ne'⟩
  rw [tot, coe_sum]
  exact Finset.sum_congr rfl fun j _ => hf j

/-- The attended features: the weighted sum, divided by the total afterwards. -/
theorem attended_eq (x : Fin 1024 → Fin 64 → EReal) (h : Fin 64 → EReal) (hx : ∀ j k, IsR (x j k)) (hh : ∀ k, IsR (h k)) (k : Fin 64) :
    ∑ j, Ideal.div (wgt x h j) (tot x h) * x j k = Ideal.div (∑ j, wgt x h j * x j k) (tot x h) := by
  obtain ⟨s, hs, hs0⟩ := tot_pos x h hx hh
  have hi : IsR (Ideal.div 1 (s : EReal)) := by
    rw [Ideal.div_coe hs0, one_mul]; exact ⟨_, rfl⟩
  rw [hs, div_real _ hs0, mul_comm, real_mul_sum hi _ _ fun j => by
    obtain ⟨r, hr, _⟩ := wgt_pos x h hx hh j
    exact IsR.mul ⟨r, hr⟩ (hx j k)]
  refine Finset.sum_congr rfl fun j _ => ?_
  rw [div_real _ hs0]
  ac_rfl

/-- The attended features are real. -/
theorem attended_real (x : Fin 1024 → Fin 64 → EReal) (h : Fin 64 → EReal) (hx : ∀ j k, IsR (x j k)) (hh : ∀ k, IsR (h k)) (k : Fin 64) :
    IsR (Ideal.div (∑ j, wgt x h j * x j k) (tot x h)) := by
  obtain ⟨s, hs, hs0⟩ := tot_pos x h hx hh
  rw [hs, Ideal.div_coe hs0]
  refine IsR.mul (IsR.sum fun j _ => ?_) ⟨_, rfl⟩
  obtain ⟨r, hr, _⟩ := wgt_pos x h hx hh j
  exact IsR.mul ⟨r, hr⟩ (hx j k)

/-- Weights times precomputed products, then the reciprocal total, is the attended features times the matrix. -/
theorem reassoc (x : Fin 1024 → Fin 64 → EReal) (h w : Fin 64 → EReal) (hx : ∀ j k, IsR (x j k)) (hh : ∀ k, IsR (h k)) (hw : ∀ k, IsR (w k)) :
    (∑ j, wgt x h j * ∑ k, x j k * w k) * Ideal.div 1 (tot x h) = ∑ k, (∑ j, Ideal.div (wgt x h j) (tot x h) * x j k) * w k := by
  obtain ⟨s, hs, hs0⟩ := tot_pos x h hx hh
  choose f hf _ using wgt_pos x h hx hh
  choose X hX using hx
  choose W hW using hw
  have hd : ∀ a : EReal, Ideal.div a (s : EReal) = a * ((1 / s : ℝ) : EReal) := fun a => Ideal.div_coe hs0 a
  rw [hs]
  simp only [hd, hf, hX, hW, one_mul, ← EReal.coe_mul, ← coe_sum]
  rw [EReal.coe_eq_coe_iff]
  simp only [Finset.mul_sum, Finset.sum_mul]
  rw [Finset.sum_comm]
  refine Finset.sum_congr rfl fun k _ => Finset.sum_congr rfl fun j _ => ?_
  ring

/-- Gates from one query row against the summed weights are the gates from both parts. -/
theorem query_split (h a b : Fin 64 → EReal) (hh : ∀ k, IsR (h k)) (ha : ∀ k, IsR (a k)) :
    ∑ k, h k * (a k + b k) = (∑ k, h k * a k) + ∑ k, h k * b k := by
  rw [← Finset.sum_add_distrib]
  exact Finset.sum_congr rfl fun k _ => real_mul_add (hh k) (ha k) (b k)

end Cert.Gnn

end
-- ==== Proof.RefSet.lean ====
/- One step of the reference's set-to-set network as functions of the gates and the cell before it, read at an entry. -/
module

public import proofs.«01_k».proof.Proof.RefGraph
public import proofs.«01_k».proof.Proof.Attend

@[expose] public section

noncomputable section

namespace Cert.Gnn

open Idealize.ShloMosaic Cert.ReferenceIdeal Cert.ReferenceIdeal.Gen
open scoped BigOperators

/-- The row of a one-row array. -/
abbrev row {n : Nat} (v : (⟨2, ![1, n]⟩ : Shape).Idx → EReal) (k : Fin n) : EReal := v (ix2 0 k)

/-- The entries of a feature matrix. -/
abbrev ent (v : (⟨2, ![1024, 64]⟩ : Shape).Idx → EReal) (j : Fin 1024) (k : Fin 64) : EReal := v (ix2 j k)

/-- Ones in a row. -/
abbrev refOnes : FVec Ideal S1x64 .f32 := broadcastInDim S1x64 ![] bcast_S_S1x64 (constant S_ .f32 0x3F800000#32)

/-- Zeros in a row. -/
abbrev refZeros : FVec Ideal S1x64 .f32 := broadcastInDim S1x64 ![] bcast_S_S1x64 (constant S_ .f32 0x00000000#32)

/-- The reference's logistic function, written out. -/
abbrev refSig (v : FVec Ideal S1x64 .f32) : FVec Ideal S1x64 .f32 := Host.divf refOnes (addf refOnes (Host.exp (Host.negf v)))

/-- The next cell, of the gates and the cell. -/
def refCell (g : FVec Ideal S1x256 .f32) (c : FVec Ideal S1x64 .f32) : FVec Ideal S1x64 .f32 :=
  addf (mulf (refSig (extractStridedSlice S1x64 ![0, 64] g slices_S1x256_S1x64_0_64)) c)
    (mulf (refSig (extractStridedSlice S1x64 ![0, 0] g slices_S1x256_S1x64_0_0)) (Host.tanh (extractStridedSlice S1x64 ![0, 128] g slices_S1x256_S1x64_0_128)))

/-- The query, of the gates and the new cell. -/
def refQuery (g : FVec Ideal S1x256 .f32) (c : FVec Ideal S1x64 .f32) : FVec Ideal S1x64 .f32 :=
  mulf (refSig (extractStridedSlice S1x64 ![0, 192] g slices_S1x256_S1x64_0_192)) (Host.tanh c)

/-- The nodes' scores. -/
def refScore (x : FVec Ideal S1024x64 .f32) (h : FVec Ideal S1x64 .f32) : FVec Ideal S1024 .f32 :=
  Host.dotGeneral dot_S1024x64_S64_S1024_1_0_0_n_n_n none x (shapeCast _ h shapeCasts_S1x64_S64)

/-- The nodes' weights before normalising, of the scores. -/
def refWgt (e : FVec Ideal S1024 .f32) : FVec Ideal S1024 .f32 :=
  Host.exp (subf e (broadcastInDim S1024 ![0] bcast_S1_S1024_0 (broadcastInDim S1 ![] bcast_S_S1 (maximumf (constant S_ .f32 0xFF800000#32) (Host.reduce FloatOps.maximumf e (constant S_ .f32 0xFF800000#32) reducesTo_S1024_S_d0 h_S_)))))

/-- The attended features, of the weights. -/
def refRead (x : FVec Ideal S1024x64 .f32) (w : FVec Ideal S1024 .f32) : FVec Ideal S1x64 .f32 :=
  broadcastInDim S1x64 ![1] bcast_S64_S1x64_1 (Host.reduceAdd (mulf (broadcastInDim S1024x64 ![0, 1] bcast_S1024x1_S1024x64_0_1 (broadcastInDim S1024x1 ![0] bcast_S1024_S1024x1_0 (Host.divf w (broadcastInDim S1024 ![0] bcast_S1_S1024_0 (broadcastInDim S1 ![] bcast_S_S1 (Host.reduceAdd w (constant S_ .f32 0x00000000#32) reducesTo_S1024_S_d0 h_S_)))))) x) (constant S_ .f32 0x00000000#32) reducesTo_S1024x64_S64_d0 h_S_)

/-- The query and the attended features side by side. -/
def refStar (h r : FVec Ideal S1x64 .f32) : FVec Ideal S1x128 .f32 :=
  concatenate S1x128 1 [⟨S1x64, h⟩, ⟨S1x64, r⟩] concatenates_S1x64_S1x64_S1x128_d1

/-- The gates, of the pair and the query. -/
def refGates (Wi : FVec Ideal S256x128 .f32) (Wh : FVec Ideal S256x64 .f32) (bi bh : FVec Ideal S256 .f32)
    (q : FVec Ideal S1x128 .f32) (h : FVec Ideal S1x64 .f32) : FVec Ideal S1x256 .f32 :=
  addf (addf (addf (Host.dotGeneral dot_S1x128_S128x256_S1x256_1_0_0_1_n_n none q (transpose S128x256 [1, 0] Wi transposes_S256x128_S128x256_1_0))
    (Host.dotGeneral dot_S1x64_S64x256_S1x256_1_0_0_1_n_n none h (transpose S64x256 [1, 0] Wh transposes_S256x64_S64x256_1_0)))
    (broadcastInDim S1x256 ![1] bcast_S256_S1x256_1 bi)) (broadcastInDim S1x256 ![1] bcast_S256_S1x256_1 bh)

/-- The first step's gates. -/
def refGates0 (Wi : FVec Ideal S256x128 .f32) (Wh : FVec Ideal S256x64 .f32) (bi bh : FVec Ideal S256 .f32) : FVec Ideal S1x256 .f32 :=
  refGates Wi Wh bi bh (broadcastInDim S1x128 ![] bcast_S_S1x128 (constant S_ .f32 0x00000000#32)) refZeros

/-- The pair the query makes over the features. -/
def refPair (x : FVec Ideal S1024x64 .f32) (h : FVec Ideal S1x64 .f32) : FVec Ideal S1x128 .f32 :=
  refStar h (refRead x (refWgt (refScore x h)))

/-- The next step's gates, of the query. -/
def refNext (x : FVec Ideal S1024x64 .f32) (Wi : FVec Ideal S256x128 .f32) (Wh : FVec Ideal S256x64 .f32) (bi bh : FVec Ideal S256 .f32)
    (h : FVec Ideal S1x64 .f32) : FVec Ideal S1x256 .f32 := refGates Wi Wh bi bh (refPair x h) h

/-- The hidden row of the closing network. -/
def refHid (L1 : FVec Ideal S128x64 .f32) (l1 : FVec Ideal S64 .f32) (q : FVec Ideal S1x128 .f32) : FVec Ideal S1x64 .f32 :=
  addf (Host.dotGeneral dot_S1x128_S128x64_S1x64_1_0_0_1_n_n none q L1) (broadcastInDim S1x64 ![1] bcast_S64_S1x64_1 l1)

/-- The closing network's result from its hidden row. -/
def refOut (L2 : FVec Ideal S64x16 .f32) (l2 : FVec Ideal S16 .f32) (v : FVec Ideal S1x64 .f32) : FVec Ideal S1x16 .f32 :=
  addf (Host.dotGeneral dot_S1x64_S64x16_S1x16_1_0_0_1_n_n none (select (cmpf .ogt v (broadcastInDim S1x64 ![] bcast_S_S1x64 (constant S_ .f32 0x00000000#32))) v (mulf (broadcastInDim S1x64 ![] bcast_S_S1x64 (constant S_ .f32 0x3C23D70A#32)) v)) L2)
    (broadcastInDim S1x16 ![1] bcast_S16_S1x16_1 l2)

/-- The reference's logistic function at an entry. -/
theorem refSig_apply (v : FVec Ideal S1x64 .f32) (i : S1x64.Idx) : refSig v i = Ideal.logistic (v i) := by
  show Ideal.div (Ideal.ofBits .f32 0x3F800000#32) (Ideal.ofBits .f32 0x3F800000#32 + Ideal.exp (-(v i))) = _
  rw [show Ideal.ofBits .f32 0x3F800000#32 = 1 from by pointwise []]
  rfl

/-- The query is real whatever the gates and the cell are. -/
theorem refQuery_real (g : FVec Ideal S1x256 .f32) (c : FVec Ideal S1x64 .f32) (k : Fin 64) : IsR (row (refQuery g c) k) := by
  show IsR (refSig _ _ * Ideal.tanh _)
  rw [refSig_apply]
  exact IsR.mul (IsR.logistic _) (IsR.tanh _)

/-- The reference's scores at a node. -/
theorem refScore_apply (x : FVec Ideal S1024x64 .f32) (h : FVec Ideal S1x64 .f32) (j : Fin 1024) :
    refScore x h (ix1 j) = score (ent x) (row h) j := by
  unfold refScore score
  pointwise!

/-- The reference's weights at a node. -/
theorem refWgt_apply (x : FVec Ideal S1024x64 .f32) (h : FVec Ideal S1x64 .f32) (j : Fin 1024) :
    refWgt (refScore x h) (ix1 j) = wgt (ent x) (row h) j := by
  unfold refWgt wgt top
  pointwise [refScore_apply, lit_bot]
  rw [max_eq_right bot_le]

/-- The reference's attended features at a column. -/
theorem refRead_apply (x : FVec Ideal S1024x64 .f32) (h : FVec Ideal S1x64 .f32) (k : Fin 64) :
    row (refRead x (refWgt (refScore x h))) k = ∑ j, Ideal.div (wgt (ent x) (row h) j) (tot (ent x) (row h)) * ent x j k := by
  unfold refRead tot
  pointwise [refWgt_apply]

/-- A column of the first half. -/
def lo (k : Fin 64) : Fin 128 := ⟨k.val, by omega⟩

/-- A column of the second half. -/
def hi (k : Fin 64) : Fin 128 := ⟨64 + k.val, by omega⟩

/-- A sum over both halves. -/
theorem sum_halves (f : Fin 128 → EReal) : ∑ q, f q = (∑ k, f (lo k)) + ∑ k, f (hi k) :=
  Fin.sum_univ_add (a := 64) (b := 64) f

/-- The pair's first half is the query. -/
theorem refStar_lo (h r : FVec Ideal S1x64 .f32) (k : Fin 64) : refStar h r (ix2 0 (lo k)) = row h k := by
  unfold refStar lo
  pointwise []

/-- The pair's second half is the attended features. -/
theorem refStar_hi (h r : FVec Ideal S1x64 .f32) (k : Fin 64) : refStar h r (ix2 0 (hi k)) = row r k := by
  unfold refStar hi
  pointwise []

/-- The reference's gates at a column. -/
theorem refGates_apply (Wi : FVec Ideal S256x128 .f32) (Wh : FVec Ideal S256x64 .f32) (bi bh : FVec Ideal S256 .f32)
    (q : FVec Ideal S1x128 .f32) (h : FVec Ideal S1x64 .f32) (l : Fin 256) :
    refGates Wi Wh bi bh q h (ix2 0 l)
      = (((∑ p, row q p * Wi (ix2 l p)) + ∑ k, row h k * Wh (ix2 l k)) + bi (ix1 l)) + bh (ix1 l) := by
  unfold refGates
  pointwise []

/-- The first step's gates are the biases. -/
theorem refGates0_apply (Wi : FVec Ideal S256x128 .f32) (Wh : FVec Ideal S256x64 .f32) (bi bh : FVec Ideal S256 .f32) (l : Fin 256) :
    refGates0 Wi Wh bi bh (ix2 0 l) = bi (ix1 l) + bh (ix1 l) := by
  unfold refGates0
  rw [refGates_apply]
  pointwise []
  simp

/-- The next step's gates at a column. -/
theorem refNext_apply (x : FVec Ideal S1024x64 .f32) (Wi : FVec Ideal S256x128 .f32) (Wh : FVec Ideal S256x64 .f32) (bi bh : FVec Ideal S256 .f32)
    (h : FVec Ideal S1x64 .f32) (l : Fin 256) :
    refNext x Wi Wh bi bh h (ix2 0 l)
      = ((((∑ k, row h k * Wi (ix2 l (lo k))) + ∑ k, (∑ j, Ideal.div (wgt (ent x) (row h) j) (tot (ent x) (row h)) * ent x j k) * Wi (ix2 l (hi k)))
          + ∑ k, row h k * Wh (ix2 l k)) + bi (ix1 l)) + bh (ix1 l) := by
  unfold refNext refPair
  rw [refGates_apply, sum_halves]
  simp only [refStar_lo, refStar_hi, refRead_apply]

/-- The hidden row at a column. -/
theorem refHid_apply (x : FVec Ideal S1024x64 .f32) (L1 : FVec Ideal S128x64 .f32) (l1 : FVec Ideal S64 .f32) (h : FVec Ideal S1x64 .f32)
    (hx : ∀ j k, IsR (ent x j k)) (hh : ∀ k, IsR (row h k)) (l : Fin 64) :
    refHid L1 l1 (refPair x h) (ix2 0 l)
      = ((∑ k, row h k * L1 (ix2 (lo k) l)) + ∑ k, Ideal.div (∑ j, wgt (ent x) (row h) j * ent x j k) (tot (ent x) (row h)) * L1 (ix2 (hi k) l)) + l1 (ix1 l) := by
  have hd : refHid L1 l1 (refPair x h) (ix2 0 l) = (∑ p, row (refPair x h) p * L1 (ix2 p l)) + l1 (ix1 l) := by
    unfold refHid
    pointwise []
  unfold refPair at hd ⊢
  rw [hd, sum_halves]
  simp only [refStar_lo, refStar_hi, refRead_apply, attended_eq _ _ hx hh]

/-- The closing network's result at a column. -/
theorem refOut_apply (L2 : FVec Ideal S64x16 .f32) (l2 : FVec Ideal S16 .f32) (v : FVec Ideal S1x64 .f32) (o : Fin 16) :
    refOut L2 l2 v (ix2 0 o) = (∑ k, leaky (row v k) * L2 (ix2 k o)) + l2 (ix1 o) := by
  unfold refOut
  simp only [leaky_eq]
  pointwise []

end Cert.Gnn

end
-- ==== Proof.KerGraph.lean ====
/- The kernel's two graph layers read at an entry. -/
module

public import proofs.«01_k».proof.Proof.RefGraph
public import proofs.«01_k».proof.Proof.Gen.KernelIdeal.Skeleton

@[expose] public section

noncomputable section

namespace Cert.Gnn

open Idealize.ShloMosaic Cert.KernelIdeal Cert.KernelIdeal.Gen
open scoped BigOperators

/-- The kernel's normalising factor of a node. -/
theorem pay1_apply (E : FVec Ideal S1024x1024 .f32) (j : Fin 1024) : k0_pay1 (F := Ideal) E (ix2 j 0) = dinv E j := by
  unfold k0_pay1 dinv deg
  pointwise []

/-- The kernel's first convolution, normalised and scaled. -/
theorem pay2_apply (E : FVec Ideal S1024x1024 .f32) (x : FVec Ideal S1024x64 .f32) (W : FVec Ideal S64x64 .f32) (b g : FVec Ideal S64 .f32)
    (j : Fin 1024) (k : Fin 64) : k0_pay2 (F := Ideal) E x W b g (ix2 j k) = bnScale (conv E (lin x W) b) g j k := by
  unfold k0_pay2 bnScale variance mean conv lin
  pointwise [pay1_apply]

/-- The kernel's first layer, from its scaled normalised convolution and its shift. -/
def kerFeat1 (p : FVec Ideal S1024x64 .f32) (be : FVec Ideal S64 .f32) : FVec Ideal S1024x64 .f32 :=
  maximumf (addf p (broadcastTo S1024x64 (shapeCast S1x64 be shapeCasts_S64_S1x64) broadcasts_S1x64_S1024x64))
    (mulf (broadcast S1024x64 (Scalar.ofBits .f32 0x3C23D70A#32))
      (addf p (broadcastTo S1024x64 (shapeCast S1x64 be shapeCasts_S64_S1x64) broadcasts_S1x64_S1024x64)))

/-- The kernel's first layer at an entry. -/
theorem kerFeat1_apply (p : FVec Ideal S1024x64 .f32) (be : FVec Ideal S64 .f32) (j : Fin 1024) (k : Fin 64) :
    kerFeat1 p be (ix2 j k) = leaky (p (ix2 j k) + be (ix1 k)) := by
  unfold kerFeat1 leaky
  pointwise []

/-- The kernel's second layer before its leaky relu. -/
theorem pay3_apply (E : FVec Ideal S1024x1024 .f32) (p : FVec Ideal S1024x64 .f32) (be1 : FVec Ideal S64 .f32) (W2 : FVec Ideal S64x64 .f32)
    (b2 g2 be2 : FVec Ideal S64 .f32) (j : Fin 1024) (k : Fin 64) :
    k0_pay3 (F := Ideal) E (k0_pay1 (F := Ideal) E) p be1 W2 b2 g2 be2 (ix2 j k)
      = bn (conv E (lin (kerFeat1 p be1) W2) b2) g2 be2 j k + kerFeat1 p be1 (ix2 j k) := by
  unfold k0_pay3 bn bnScale variance mean conv lin kerFeat1
  pointwise [pay1_apply]

/-- The kernel's leaky relu at an entry. -/
theorem pay4_apply (v : FVec Ideal S1024x64 .f32) (j : Fin 1024) (k : Fin 64) :
    k0_pay4 (F := Ideal) v (Scalar.ofBits .f32 0x3C23D70A#32) (ix2 j k) = leaky (v (ix2 j k)) := by
  unfold k0_pay4 leaky
  pointwise []

/-- Two feature matrices are equal when their entries are. -/
theorem feat_ext {a b : FVec Ideal S1024x64 .f32} (h : ∀ j k, a (ix2 j k) = b (ix2 j k)) : a = b := by
  funext i
  rw [eq_ix2 i]
  exact h _ _

/-- The kernel's features after both layers are the reference's. -/
theorem feat_eq (E : FVec Ideal S1024x1024 .f32) (x : FVec Ideal S1024x64 .f32) (W1 W2 : FVec Ideal S64x64 .f32)
    (b1 g1 be1 b2 g2 be2 : FVec Ideal S64 .f32) (h : ∀ j, 0 < deg E j) :
    k0_pay4 (F := Ideal) (k0_pay3 (F := Ideal) E (k0_pay1 (F := Ideal) E) (k0_pay2 (F := Ideal) E x W1 b1 g1) be1 W2 b2 g2 be2) (Scalar.ofBits .f32 0x3C23D70A#32)
      = refFeat2 E (refFeat1 E x W1 b1 g1 be1) W2 b2 g2 be2 := by
  have h1 : kerFeat1 (k0_pay2 (F := Ideal) E x W1 b1 g1) be1 = refFeat1 E x W1 b1 g1 be1 := feat_ext fun j k => by
    rw [kerFeat1_apply, pay2_apply, refFeat1_apply _ _ _ _ _ _ h]
    rfl
  refine feat_ext fun j k => ?_
  rw [pay4_apply, pay3_apply, refFeat2_apply _ _ _ _ _ _ h, h1]

/-- The features after both layers are real. -/
theorem feat_real (E : FVec Ideal S1024x1024 .f32) (x : FVec Ideal S1024x64 .f32) (W1 W2 : FVec Ideal S64x64 .f32)
    (b1 g1 be1 b2 g2 be2 : FVec Ideal S64 .f32) (h : ∀ j, 0 < deg E j) (hg1 : ∀ k, IsR (g1 (ix1 k))) (hb1 : ∀ k, IsR (be1 (ix1 k)))
    (hg2 : ∀ k, IsR (g2 (ix1 k))) (hb2 : ∀ k, IsR (be2 (ix1 k))) (j : Fin 1024) (k : Fin 64) :
    IsR (refFeat2 E (refFeat1 E x W1 b1 g1 be1) W2 b2 g2 be2 (ix2 j k)) := by
  rw [refFeat2_apply _ _ _ _ _ _ h, refFeat1_apply _ _ _ _ _ _ h]
  exact IsR.leaky (IsR.add (IsR.bn_entry _ _ _ hg2 hb2 _ _) (IsR.leaky (IsR.bn_entry _ _ _ hg1 hb1 _ _)))

end Cert.Gnn

end
-- ==== Proof.KerSet.lean ====
/- One step of the kernel's set-to-set network as functions of the gates and the cell before it, and that it is the
   reference's step when the features and the input weights are real. -/
module

public import proofs.«01_k».proof.Proof.RefSet
public import proofs.«01_k».proof.Proof.KerGraph

@[expose] public section

noncomputable section

namespace Cert.Gnn

open Idealize.ShloMosaic Cert.KernelIdeal Cert.KernelIdeal.Gen
open scoped BigOperators

/-- The next cell, of the gates and the cell. -/
def kerCell (g : FVec Ideal S1x256 .f32) (c : FVec Ideal S1x64 .f32) : FVec Ideal S1x64 .f32 :=
  addf (mulf (logistic (extractStridedSlice S1x64 ![0, 64] g slices_S1x256_o0_64_S1x64)) c)
    (mulf (logistic (extractStridedSlice S1x64 ![0, 0] g slices_S1x256_o0_0_S1x64)) (tanh (extractStridedSlice S1x64 ![0, 128] g slices_S1x256_o0_128_S1x64)))

/-- The query, of the gates and the new cell. -/
def kerQuery (g : FVec Ideal S1x256 .f32) (c : FVec Ideal S1x64 .f32) : FVec Ideal S1x64 .f32 :=
  mulf (logistic (extractStridedSlice S1x64 ![0, 192] g slices_S1x256_o0_192_S1x64)) (tanh c)

/-- The nodes' scores. -/
def kerScore (x : FVec Ideal S1024x64 .f32) (h : FVec Ideal S1x64 .f32) : FVec Ideal S1x1024 .f32 :=
  matmul dot_S1x64_S1024x64_S1x1024_1_1_0_0_n_n none h x (constant S1x1024 .f32 0x00000000#32)

/-- The scores below their maximum. -/
def kerShift (e : FVec Ideal S1x1024 .f32) : FVec Ideal S1x1024 .f32 :=
  subf e (broadcastTo S1x1024 (shapeCast S1x1 (multiReduction .maximumf [1] S1 e 0xFF800000#32 reduces_S1x1024_S1 (.inl rfl) rfl) shapeCasts_S1_S1x1) broadcasts_S1x1_S1x1024)

/-- The weights' total. -/
def kerTot (w : FVec Ideal S1x1024 .f32) : FVec Ideal S1x1 .f32 :=
  shapeCast S1x1 (multiReduction .add [1] S1 w 0x00000000#32 reduces_S1x1024_S1 (.inl rfl) rfl) shapeCasts_S1_S1x1

/-- The gates, of the query, the weights and their total. -/
def kerGates (w : FVec Ideal S256x64 .f32) (m : FVec Ideal S1024x256 .f32) (b : FVec Ideal S1x256 .f32)
    (h : FVec Ideal S1x64 .f32) (p : FVec Ideal S1x1024 .f32) (s : FVec Ideal S1x1 .f32) : FVec Ideal S1x256 .f32 :=
  addf (addf (matmul dot_S1x64_S256x64_S1x256_1_1_0_0_n_n none h w (constant S1x256 .f32 0x00000000#32))
    (mulf (matmul dot_S1x1024_S1024x256_S1x256_1_0_0_1_n_n none p m (constant S1x256 .f32 0x00000000#32))
      (broadcastTo S1x256 (divf (broadcast S1x1 (Scalar.ofBits .f32 0x3F800000#32)) s) broadcasts_S1x1_S1x256))) b

/-- The next step's gates, of the query. -/
def kerNext (x : FVec Ideal S1024x64 .f32) (w : FVec Ideal S256x64 .f32) (m : FVec Ideal S1024x256 .f32) (b : FVec Ideal S1x256 .f32)
    (h : FVec Ideal S1x64 .f32) : FVec Ideal S1x256 .f32 :=
  kerGates w m b h (exp (kerShift (kerScore x h))) (kerTot (exp (kerShift (kerScore x h))))

/-- The closing network, of the last query. -/
def kerFin (x : FVec Ideal S1024x64 .f32) (La Lb : FVec Ideal S64x64 .f32) (l1 : FVec Ideal S64 .f32) (L2 : FVec Ideal S64x16 .f32) (l2 : FVec Ideal S16 .f32)
    (h : FVec Ideal S1x64 .f32) : FVec Ideal S1x16 .f32 :=
  let p := exp (kerShift (kerScore x h))
  let r := divf (matmul dot_S1x1024_S1024x64_S1x64_1_0_0_1_n_n none p x (constant S1x64 .f32 0x00000000#32)) (broadcastTo S1x64 (kerTot p) broadcasts_S1x1_S1x64)
  let v := addf (addf (matmul dot_S1x64_S64x64_S1x64_1_0_0_1_n_n none h La (constant S1x64 .f32 0x00000000#32)) (matmul dot_S1x64_S64x64_S1x64_1_0_0_1_n_n none r Lb (constant S1x64 .f32 0x00000000#32)))
    (shapeCast S1x64 l1 shapeCasts_S64_S1x64)
  addf (matmul dot_S1x64_S64x16_S1x16_1_0_0_1_n_n none (maximumf v (mulf (broadcast S1x64 (Scalar.ofBits .f32 0x3C23D70A#32)) v)) L2 (constant S1x16 .f32 0x00000000#32))
    (shapeCast S1x16 l2 shapeCasts_S16_S1x16)

/-- One-row arrays are equal when their entries are. -/
theorem row_ext {n : Nat} {a b : (⟨2, ![1, n]⟩ : Shape).Idx → EReal} (h : ∀ k : Fin n, a (ix2 0 k) = b (ix2 0 k)) : a = b := by
  funext i
  have hi : i = ix2 (0 : Fin 1) (i 1) := (eq_ix2 i).trans (congrArg (fun z => ix2 z (i 1)) (Subsingleton.elim (α := Fin 1) _ _))
  rw [hi]
  exact h _

/-- The kernel's cell is the reference's. -/
theorem cell_eq (g : FVec Ideal S1x256 .f32) (c : FVec Ideal S1x64 .f32) : kerCell g c = refCell g c := by
  funext i
  show Ideal.logistic _ * _ + Ideal.logistic _ * Ideal.tanh _ = refSig _ i * _ + refSig _ i * Ideal.tanh _
  rw [refSig_apply, refSig_apply]

/-- The kernel's query is the reference's. -/
theorem query_eq (g : FVec Ideal S1x256 .f32) (c : FVec Ideal S1x64 .f32) : kerQuery g c = refQuery g c := by
  funext i
  show Ideal.logistic _ * Ideal.tanh _ = refSig _ i * Ideal.tanh _
  rw [refSig_apply]

/-- The kernel's scores at a node. -/
theorem kerScore_apply (x : FVec Ideal S1024x64 .f32) (h : FVec Ideal S1x64 .f32) (j : Fin 1024) :
    kerScore x h (ix2 0 j) = score (ent x) (row h) j := by
  unfold kerScore score
  pointwise []

/-- The kernel's weights at a node. -/
theorem kerWgt_apply (x : FVec Ideal S1024x64 .f32) (h : FVec Ideal S1x64 .f32) (j : Fin 1024) :
    exp (kerShift (kerScore x h)) (ix2 0 j) = wgt (ent x) (row h) j := by
  unfold kerShift wgt top
  pointwise [kerScore_apply, lit_bot]

/-- The kernel's total. -/
theorem kerTot_apply (p : FVec Ideal S1x1024 .f32) : kerTot p (ix2 0 0) = ∑ j, p (ix2 0 j) := by
  unfold kerTot
  pointwise []

/-- The kernel's gates at a column. -/
theorem kerNext_apply (x : FVec Ideal S1024x64 .f32) (w : FVec Ideal S256x64 .f32) (m : FVec Ideal S1024x256 .f32) (b : FVec Ideal S1x256 .f32)
    (h : FVec Ideal S1x64 .f32) (l : Fin 256) :
    kerNext x w m b h (ix2 0 l)
      = ((∑ k, row h k * w (ix2 l k)) + (∑ j, wgt (ent x) (row h) j * m (ix2 j l)) * Ideal.div 1 (tot (ent x) (row h))) + b (ix2 0 l) := by
  have ht : kerTot (exp (kerShift (kerScore x h))) (ix2 0 0) = tot (ent x) (row h) := by
    rw [kerTot_apply]
    exact Finset.sum_congr rfl fun j _ => kerWgt_apply x h j
  have hw := kerWgt_apply x h
  unfold kerNext
  generalize exp (kerShift (kerScore x h)) = p at ht hw ⊢
  unfold kerGates
  pointwise [ht, hw]

/-- The kernel's result at a column, of the last query. -/
theorem kerFin_apply (x : FVec Ideal S1024x64 .f32) (La Lb : FVec Ideal S64x64 .f32) (l1 : FVec Ideal S64 .f32) (L2 : FVec Ideal S64x16 .f32) (l2 : FVec Ideal S16 .f32)
    (h : FVec Ideal S1x64 .f32) (o : Fin 16) :
    kerFin x La Lb l1 L2 l2 h (ix2 0 o)
      = (∑ l, leaky (((∑ k, row h k * La (ix2 k l)) + ∑ k, Ideal.div (∑ j, wgt (ent x) (row h) j * ent x j k) (tot (ent x) (row h)) * Lb (ix2 k l)) + l1 (ix1 l)) * L2 (ix2 l o)) + l2 (ix1 o) := by
  have ht : kerTot (exp (kerShift (kerScore x h))) (ix2 0 0) = tot (ent x) (row h) := by
    rw [kerTot_apply]
    exact Finset.sum_congr rfl fun j _ => kerWgt_apply x h j
  have hw := kerWgt_apply x h
  unfold kerFin
  generalize exp (kerShift (kerScore x h)) = p at ht hw ⊢
  unfold leaky
  pointwise [ht, hw]

/-- The kernel's next gates are the reference's, for a real query over real features and real input weights. -/
theorem next_eq (x : FVec Ideal S1024x64 .f32) (w : FVec Ideal S256x64 .f32) (m : FVec Ideal S1024x256 .f32) (b : FVec Ideal S1x256 .f32)
    (Wi : FVec Ideal S256x128 .f32) (Wh : FVec Ideal S256x64 .f32) (bi bh : FVec Ideal S256 .f32) (h : FVec Ideal S1x64 .f32)
    (hw : ∀ l k, w (ix2 l k) = Wi (ix2 l (lo k)) + Wh (ix2 l k)) (hm : ∀ j l, m (ix2 j l) = ∑ k, ent x j k * Wi (ix2 l (hi k)))
    (hb : ∀ l, b (ix2 0 l) = bi (ix1 l) + bh (ix1 l))
    (hx : ∀ j k, IsR (ent x j k)) (hh : ∀ k, IsR (row h k)) (hWi : ∀ l q, IsR (Wi (ix2 l q))) :
    kerNext x w m b h = refNext x Wi Wh bi bh h := row_ext fun l => by
  rw [kerNext_apply, refNext_apply]
  simp only [hw, hm, hb]
  rw [reassoc (ent x) (row h) (fun k => Wi (ix2 l (hi k))) hx hh fun k => hWi _ _,
    query_split (row h) (fun k => Wi (ix2 l (lo k))) (fun k => Wh (ix2 l k)) hh fun k => hWi _ _]
  ac_rfl

/-- The kernel's closing network is the reference's, for a real query over real features. -/
theorem fin_eq (x : FVec Ideal S1024x64 .f32) (La Lb : FVec Ideal S64x64 .f32) (L1 : FVec Ideal S128x64 .f32) (l1 : FVec Ideal S64 .f32)
    (L2 : FVec Ideal S64x16 .f32) (l2 : FVec Ideal S16 .f32) (h : FVec Ideal S1x64 .f32)
    (hLa : ∀ k l, La (ix2 k l) = L1 (ix2 (lo k) l)) (hLb : ∀ k l, Lb (ix2 k l) = L1 (ix2 (hi k) l))
    (hx : ∀ j k, IsR (ent x j k)) (hh : ∀ k, IsR (row h k)) :
    kerFin x La Lb l1 L2 l2 h = refOut L2 l2 (refHid L1 l1 (refPair x h)) := row_ext fun o => by
  rw [kerFin_apply, refOut_apply]
  simp only [hLa, hLb, refHid_apply x L1 l1 h hx hh]

end Cert.Gnn

end
-- ==== Proof.KerChain.lean ====
/- The kernel's ten unrolled steps, as the pieces its program is cut in compute them, are ten uses of one step. -/
module

public import proofs.«01_k».proof.Proof.KerSet
public import proofs.«01_k».proof.Proof.Gen.KernelIdeal.Value

@[expose] public section

noncomputable section

namespace Cert.Gnn

open Idealize.ShloMosaic Cert.KernelIdeal Cert.KernelIdeal.Gen
open scoped BigOperators

/-- The gates of a step and the cell before it. -/
abbrev State : Type := FVec Ideal S1x256 .f32 × FVec Ideal S1x64 .f32

/-- A state's new cell. -/
def kc (s : State) : FVec Ideal S1x64 .f32 := kerCell s.1 s.2

/-- A state's query. -/
def kq (s : State) : FVec Ideal S1x64 .f32 := kerQuery s.1 (kc s)

variable (x : FVec Ideal S1024x64 .f32) (w : FVec Ideal S256x64 .f32) (m : FVec Ideal S1024x256 .f32) (b : FVec Ideal S1x256 .f32)

/-- The state after a step. -/
def kstep (s : State) : State := (kerNext x w m b (kq s), kc s)

/-- The gate the fourth piece passes on for the cell's part. -/
def keep (s : State) : FVec Ideal S1x64 .f32 := mulf (logistic (extractStridedSlice S1x64 ![0, 64] s.1 slices_S1x256_o0_64_S1x64)) s.2

/-- The gate the fourth piece passes on for the new part. -/
def fresh (s : State) : FVec Ideal S1x64 .f32 :=
  mulf (logistic (extractStridedSlice S1x64 ![0, 0] s.1 slices_S1x256_o0_0_S1x64)) (tanh (extractStridedSlice S1x64 ![0, 128] s.1 slices_S1x256_o0_128_S1x64))

/-- The gate the fourth piece passes on for the query. -/
def outg (s : State) : FVec Ideal S1x64 .f32 := logistic (extractStridedSlice S1x64 ![0, 192] s.1 slices_S1x256_o0_192_S1x64)

/-- The fourth piece's second step's gates. -/
theorem pay12_eq (s : State) : k0_pay12 (F := Ideal) w m b (kq s) (kerShift (kerScore x (kq s))) = (kstep x w m b s).1 := rfl

/-- The fourth piece's second cell. -/
theorem pay13_eq (s : State) : k0_pay13 (F := Ideal) w m b (kc s) (kq s) (kerShift (kerScore x (kq s))) = kc (kstep x w m b s) := rfl

/-- The fourth piece's third step's gates. -/
theorem pay14_eq (s : State) :
    k0_pay14 (F := Ideal) x w m b (kc s) (kq s) (kerShift (kerScore x (kq s))) = (kstep x w m b (kstep x w m b s)).1 := rfl

/-- What the fourth piece leaves: the output gate of its third step. -/
theorem pay15_eq (s : State) :
    k0_pay15 (F := Ideal) x w m b (kc s) (kq s) (kerShift (kerScore x (kq s))) = outg (kstep x w m b (kstep x w m b s)) := by
  unfold k0_pay15 outg
  rw [pay14_eq]

/-- What the fourth piece leaves: what its third step keeps of the cell. -/
theorem pay16_eq (s : State) :
    k0_pay16 (F := Ideal) x w m b (kc s) (kq s) (kerShift (kerScore x (kq s))) = keep (kstep x w m b (kstep x w m b s)) := by
  unfold k0_pay16 keep
  rw [pay14_eq, pay13_eq]
  rfl

/-- What the fourth piece leaves: what its third step adds to the cell. -/
theorem pay17_eq (s : State) :
    k0_pay17 (F := Ideal) x w m b (kc s) (kq s) (kerShift (kerScore x (kq s))) = fresh (kstep x w m b (kstep x w m b s)) := by
  unfold k0_pay17 fresh
  rw [pay14_eq]

/-- The fifth piece's fourth step's gates. -/
theorem pay19_eq (s : State) : k0_pay19 (F := Ideal) x w m b (outg s) (keep s) (fresh s) = (kstep x w m b s).1 := rfl

/-- What the fifth piece leaves: the fourth cell. -/
theorem pay20_eq (s : State) : k0_pay20 (F := Ideal) x w m b (outg s) (keep s) (fresh s) = (kstep x w m b (kstep x w m b s)).2 := rfl

/-- What the fifth piece leaves: the fifth step's gates. -/
theorem pay21_eq (s : State) : k0_pay21 (F := Ideal) x w m b (outg s) (keep s) (fresh s) = (kstep x w m b (kstep x w m b s)).1 := rfl

/-- What the sixth piece leaves: the sixth cell. -/
theorem pay24_eq (s : State) : k0_pay24 (F := Ideal) x w m b s.2 s.1 = kc (kstep x w m b s) := rfl

/-- What the sixth piece leaves: the sixth query. -/
theorem pay25_eq (s : State) : k0_pay25 (F := Ideal) x w m b s.2 s.1 = kq (kstep x w m b s) := rfl

/-- What the sixth piece leaves: the sixth weights. -/
theorem pay26_eq (s : State) : k0_pay26 (F := Ideal) x w m b s.2 s.1 = exp (kerShift (kerScore x (kq (kstep x w m b s)))) := rfl

/-- What the sixth piece leaves: their total. -/
theorem pay27_eq (s : State) : k0_pay27 (F := Ideal) x w m b s.2 s.1 = kerTot (exp (kerShift (kerScore x (kq (kstep x w m b s))))) := rfl

/-- The zeros the sixth piece passes on. -/
abbrev zeroGates : FVec Ideal S1x256 .f32 := constant S1x256 .f32 0x00000000#32

/-- What the seventh piece leaves: the eighth cell. -/
theorem pay31_eq (s : State) :
    k0_pay31 (F := Ideal) x w m b (kc s) (kq s) (exp (kerShift (kerScore x (kq s)))) (kerTot (exp (kerShift (kerScore x (kq s))))) zeroGates
      = kc (kstep x w m b (kstep x w m b s)) := rfl

/-- What the seventh piece leaves: the eighth query. -/
theorem pay32_eq (s : State) :
    k0_pay32 (F := Ideal) x w m b (kc s) (kq s) (exp (kerShift (kerScore x (kq s)))) (kerTot (exp (kerShift (kerScore x (kq s))))) zeroGates
      = kq (kstep x w m b (kstep x w m b s)) := rfl

/-- What the seventh piece leaves: the eighth scores. -/
theorem pay33_eq (s : State) :
    k0_pay33 (F := Ideal) x w m b (kc s) (kq s) (exp (kerShift (kerScore x (kq s)))) (kerTot (exp (kerShift (kerScore x (kq s))))) zeroGates
      = kerScore x (kq (kstep x w m b (kstep x w m b s))) := rfl

/-- What the eighth piece leaves: the ninth cell. -/
theorem pay35_eq (s : State) : k0_pay35 (F := Ideal) w m b (kc s) (kq s) (kerScore x (kq s)) = (kstep x w m b (kstep x w m b s)).2 := rfl

/-- What the eighth piece leaves: the tenth step's gates. -/
theorem pay36_eq (s : State) : k0_pay36 (F := Ideal) x w m b (kc s) (kq s) (kerScore x (kq s)) = (kstep x w m b (kstep x w m b s)).1 := rfl

/-- The last piece, of the tenth step's state. -/
theorem pay40_eq (s : State) (La Lb : FVec Ideal S64x64 .f32) (l1 : FVec Ideal S64 .f32) (L2 : FVec Ideal S64x16 .f32) (l2 : FVec Ideal S16 .f32) :
    k0_pay40 (F := Ideal) x s.2 s.1 (logistic (extractStridedSlice S1x64 ![0, 0] s.1 slices_S1x256_o0_0_S1x64))
        (logistic (extractStridedSlice S1x64 ![0, 64] s.1 slices_S1x256_o0_64_S1x64)) (extractStridedSlice S1x64 ![0, 128] s.1 slices_S1x256_o0_128_S1x64)
        La Lb l1 L2 l2 = kerFin x La Lb l1 L2 l2 (kq s) := rfl

end Cert.Gnn

end
-- ==== Proof.KerRun.lean ====
/- The kernel's result over its arguments: the features, nine steps from the first gates, the closing network. -/
module

public import proofs.«01_k».proof.Proof.KerChain

@[expose] public section

noncomputable section

namespace Cert.Gnn

open Idealize.ShloMosaic Cert.KernelIdeal Cert.KernelIdeal.Gen
open scoped BigOperators

/-- The kernel's eighteen arguments. -/
structure Args where
  E : Vec Ideal S1024x1024 .f32
  x : Vec Ideal S1024x64 .f32
  W1 : Vec Ideal S64x64 .f32
  b1 : Vec Ideal S64 .f32
  g1 : Vec Ideal S64 .f32
  be1 : Vec Ideal S64 .f32
  W2 : Vec Ideal S64x64 .f32
  b2 : Vec Ideal S64 .f32
  g2 : Vec Ideal S64 .f32
  be2 : Vec Ideal S64 .f32
  Wi : Vec Ideal S256x128 .f32
  Wh : Vec Ideal S256x64 .f32
  bi : Vec Ideal S256 .f32
  bh : Vec Ideal S256 .f32
  L1 : Vec Ideal S128x64 .f32
  l1 : Vec Ideal S64 .f32
  L2 : Vec Ideal S64x16 .f32
  l2 : Vec Ideal S16 .f32

variable (A : Args)

/-- The kernel's features. -/
def kX : FVec Ideal S1024x64 .f32 := k0_pay42 (F := Ideal) A.E A.x A.W1 A.b1 A.g1 A.be1 A.W2 A.b2 A.g2 A.be2 A.Wi A.Wh A.bi A.bh A.L1 A.l1 A.L2 A.l2

/-- The kernel's summed weights. -/
def kW : FVec Ideal S256x64 .f32 := k0_pay43 (F := Ideal) A.E A.x A.W1 A.b1 A.g1 A.be1 A.W2 A.b2 A.g2 A.be2 A.Wi A.Wh A.bi A.bh A.L1 A.l1 A.L2 A.l2

/-- The kernel's precomputed products of the features with the input weights' second half. -/
def kM : FVec Ideal S1024x256 .f32 := k0_pay44 (F := Ideal) A.E A.x A.W1 A.b1 A.g1 A.be1 A.W2 A.b2 A.g2 A.be2 A.Wi A.Wh A.bi A.bh A.L1 A.l1 A.L2 A.l2

/-- The kernel's summed biases. -/
def kB : FVec Ideal S1x256 .f32 := k0_pay45 (F := Ideal) A.E A.x A.W1 A.b1 A.g1 A.be1 A.W2 A.b2 A.g2 A.be2 A.Wi A.Wh A.bi A.bh A.L1 A.l1 A.L2 A.l2

/-- A kernel step over its arguments. -/
def kS : State → State := kstep (kX A) (kW A) (kM A) (kB A)

/-- The first step's state. -/
def kInit : State :=
  (k0_pay8 (F := Ideal) (k0_pay41 (F := Ideal) A.E A.x A.W1 A.b1 A.g1 A.be1 A.W2 A.b2 A.g2 A.be2 A.Wi A.Wh A.bi A.bh A.L1 A.l1 A.L2 A.l2) (Scalar.ofBits .f32 0x3C23D70A#32) (View.ld A.Wi r0_4) (View.ld A.Wh r0_5) (View.ld A.Wi r0_6) (View.ld A.bi r0_7) (View.ld A.bh r0_7),
    broadcast S1x64 (Scalar.ofBits .f32 0x00000000#32))

/-- After the first step: its cell. -/
theorem k46 : k0_pay46 (F := Ideal) A.E A.x A.W1 A.b1 A.g1 A.be1 A.W2 A.b2 A.g2 A.be2 A.Wi A.Wh A.bi A.bh A.L1 A.l1 A.L2 A.l2 = kc (kInit A) := rfl
/-- After the first step: its query. -/
theorem k47 : k0_pay47 (F := Ideal) A.E A.x A.W1 A.b1 A.g1 A.be1 A.W2 A.b2 A.g2 A.be2 A.Wi A.Wh A.bi A.bh A.L1 A.l1 A.L2 A.l2 = kq (kInit A) := rfl
/-- After the first step: its scores below their maximum. -/
theorem k48 : k0_pay48 (F := Ideal) A.E A.x A.W1 A.b1 A.g1 A.be1 A.W2 A.b2 A.g2 A.be2 A.Wi A.Wh A.bi A.bh A.L1 A.l1 A.L2 A.l2 = kerShift (kerScore (kX A) (kq (kInit A))) := rfl

/-- Into the third step: its output gate. -/
theorem k49 : k0_pay49 (F := Ideal) A.E A.x A.W1 A.b1 A.g1 A.be1 A.W2 A.b2 A.g2 A.be2 A.Wi A.Wh A.bi A.bh A.L1 A.l1 A.L2 A.l2 = outg ((kS A)^[2] (kInit A)) := by
  unfold k0_pay49
  rw [k46, k47, k48]
  exact pay15_eq (kX A) (kW A) (kM A) (kB A) _
/-- Into the third step: what it keeps. -/
theorem k50 : k0_pay50 (F := Ideal) A.E A.x A.W1 A.b1 A.g1 A.be1 A.W2 A.b2 A.g2 A.be2 A.Wi A.Wh A.bi A.bh A.L1 A.l1 A.L2 A.l2 = keep ((kS A)^[2] (kInit A)) := by
  unfold k0_pay50
  rw [k46, k47, k48]
  exact pay16_eq (kX A) (kW A) (kM A) (kB A) _
/-- Into the third step: what it adds. -/
theorem k51 : k0_pay51 (F := Ideal) A.E A.x A.W1 A.b1 A.g1 A.be1 A.W2 A.b2 A.g2 A.be2 A.Wi A.Wh A.bi A.bh A.L1 A.l1 A.L2 A.l2 = fresh ((kS A)^[2] (kInit A)) := by
  unfold k0_pay51
  rw [k46, k47, k48]
  exact pay17_eq (kX A) (kW A) (kM A) (kB A) _

/-- Into the fifth step: the cell before it. -/
theorem k52 : k0_pay52 (F := Ideal) A.E A.x A.W1 A.b1 A.g1 A.be1 A.W2 A.b2 A.g2 A.be2 A.Wi A.Wh A.bi A.bh A.L1 A.l1 A.L2 A.l2 = ((kS A)^[4] (kInit A)).2 := by
  unfold k0_pay52
  rw [k49, k50, k51]
  exact pay20_eq (kX A) (kW A) (kM A) (kB A) _
/-- Into the fifth step: its gates. -/
theorem k53 : k0_pay53 (F := Ideal) A.E A.x A.W1 A.b1 A.g1 A.be1 A.W2 A.b2 A.g2 A.be2 A.Wi A.Wh A.bi A.bh A.L1 A.l1 A.L2 A.l2 = ((kS A)^[4] (kInit A)).1 := by
  unfold k0_pay53
  rw [k49, k50, k51]
  exact pay21_eq (kX A) (kW A) (kM A) (kB A) _

/-- After the sixth step: its cell. -/
theorem k55 : k0_pay55 (F := Ideal) A.E A.x A.W1 A.b1 A.g1 A.be1 A.W2 A.b2 A.g2 A.be2 A.Wi A.Wh A.bi A.bh A.L1 A.l1 A.L2 A.l2 = kc ((kS A)^[5] (kInit A)) := by
  unfold k0_pay55
  rw [k52, k53]
  exact pay24_eq (kX A) (kW A) (kM A) (kB A) _
/-- After the sixth step: its query. -/
theorem k56 : k0_pay56 (F := Ideal) A.E A.x A.W1 A.b1 A.g1 A.be1 A.W2 A.b2 A.g2 A.be2 A.Wi A.Wh A.bi A.bh A.L1 A.l1 A.L2 A.l2 = kq ((kS A)^[5] (kInit A)) := by
  unfold k0_pay56
  rw [k52, k53]
  exact pay25_eq (kX A) (kW A) (kM A) (kB A) _
/-- After the sixth step: its weights. -/
theorem k57 : k0_pay57 (F := Ideal) A.E A.x A.W1 A.b1 A.g1 A.be1 A.W2 A.b2 A.g2 A.be2 A.Wi A.Wh A.bi A.bh A.L1 A.l1 A.L2 A.l2 = exp (kerShift (kerScore (kX A) (kq ((kS A)^[5] (kInit A))))) := by
  unfold k0_pay57
  rw [k52, k53]
  exact pay26_eq (kX A) (kW A) (kM A) (kB A) _
/-- After the sixth step: their total. -/
theorem k58 : k0_pay58 (F := Ideal) A.E A.x A.W1 A.b1 A.g1 A.be1 A.W2 A.b2 A.g2 A.be2 A.Wi A.Wh A.bi A.bh A.L1 A.l1 A.L2 A.l2 = kerTot (exp (kerShift (kerScore (kX A) (kq ((kS A)^[5] (kInit A)))))) := by
  unfold k0_pay58
  rw [k52, k53]
  exact pay27_eq (kX A) (kW A) (kM A) (kB A) _

/-- After the eighth step: its cell. -/
theorem k59 : k0_pay59 (F := Ideal) A.E A.x A.W1 A.b1 A.g1 A.be1 A.W2 A.b2 A.g2 A.be2 A.Wi A.Wh A.bi A.bh A.L1 A.l1 A.L2 A.l2 = kc ((kS A)^[7] (kInit A)) := by
  unfold k0_pay59
  rw [k55, k56, k57, k58]
  exact pay31_eq (kX A) (kW A) (kM A) (kB A) _
/-- After the eighth step: its query. -/
theorem k60 : k0_pay60 (F := Ideal) A.E A.x A.W1 A.b1 A.g1 A.be1 A.W2 A.b2 A.g2 A.be2 A.Wi A.Wh A.bi A.bh A.L1 A.l1 A.L2 A.l2 = kq ((kS A)^[7] (kInit A)) := by
  unfold k0_pay60
  rw [k55, k56, k57, k58]
  exact pay32_eq (kX A) (kW A) (kM A) (kB A) _
/-- After the eighth step: its scores. -/
theorem k61 : k0_pay61 (F := Ideal) A.E A.x A.W1 A.b1 A.g1 A.be1 A.W2 A.b2 A.g2 A.be2 A.Wi A.Wh A.bi A.bh A.L1 A.l1 A.L2 A.l2 = kerScore (kX A) (kq ((kS A)^[7] (kInit A))) := by
  unfold k0_pay61
  rw [k55, k56, k57, k58]
  exact pay33_eq (kX A) (kW A) (kM A) (kB A) _

/-- The kernel's result is the closing network of the tenth query. -/
theorem G18_eq : Cert.KernelIdeal.Value.G18 (F := Ideal) A.E A.x A.W1 A.b1 A.g1 A.be1 A.W2 A.b2 A.g2 A.be2 A.Wi A.Wh A.bi A.bh A.L1 A.l1 A.L2 A.l2
    = kerFin (kX A) (View.ld A.L1 r0_8) (View.ld A.L1 r0_9) A.l1 A.L2 A.l2 (kq ((kS A)^[9] (kInit A))) := by
  have h36 : k0_pay36 (F := Ideal) (kX A) (kW A) (kM A) (kB A) (kc ((kS A)^[7] (kInit A))) (kq ((kS A)^[7] (kInit A))) (kerScore (kX A) (kq ((kS A)^[7] (kInit A))))
      = ((kS A)^[9] (kInit A)).1 := pay36_eq (kX A) (kW A) (kM A) (kB A) _
  have h35 : k0_pay35 (F := Ideal) (kW A) (kM A) (kB A) (kc ((kS A)^[7] (kInit A))) (kq ((kS A)^[7] (kInit A))) (kerScore (kX A) (kq ((kS A)^[7] (kInit A))))
      = ((kS A)^[9] (kInit A)).2 := pay35_eq (kX A) (kW A) (kM A) (kB A) _
  unfold Cert.KernelIdeal.Value.G18 k0_pay37 k0_pay38 k0_pay39
  rw [k59, k60, k61]
  change k0_pay40 (F := Ideal) (kX A) (k0_pay35 (F := Ideal) (kW A) (kM A) (kB A) _ _ _) (k0_pay36 (F := Ideal) (kX A) (kW A) (kM A) (kB A) _ _ _)
    (logistic (extractStridedSlice S1x64 ![0, 0] (k0_pay36 (F := Ideal) (kX A) (kW A) (kM A) (kB A) _ _ _) slices_S1x256_o0_0_S1x64))
    (logistic (extractStridedSlice S1x64 ![0, 64] (k0_pay36 (F := Ideal) (kX A) (kW A) (kM A) (kB A) _ _ _) slices_S1x256_o0_64_S1x64))
    (extractStridedSlice S1x64 ![0, 128] (k0_pay36 (F := Ideal) (kX A) (kW A) (kM A) (kB A) _ _ _) slices_S1x256_o0_128_S1x64) _ _ _ _ _ = _
  rw [h36, h35]
  exact pay40_eq (kX A) _ _ _ _ _ _

/-- The offsets of a load of a whole matrix. -/
theorem whole2 : (![0, 0] : Fin 2 → Nat) = fun _ => 0 := funext fun a => by fin_cases a <;> rfl

/-- The offset of a load of a whole vector. -/
theorem whole1 : (![0] : Fin 1 → Nat) = fun _ => 0 := funext fun a => by fin_cases a; rfl

/-- A load of a whole array reads it: the edge weights. -/
theorem ld0 (a : Vec Ideal S1024x1024 .f32) : View.ld a r0_0 = a := View.ld_unit_zero (S := S1024x1024) whole2 _ a
/-- A load of a whole array reads it: the node features. -/
theorem ld1 (a : Vec Ideal S1024x64 .f32) : View.ld a r0_1 = a := View.ld_unit_zero (S := S1024x64) whole2 _ a
/-- A load of a whole array reads it: a layer's weights. -/
theorem ld2 (a : Vec Ideal S64x64 .f32) : View.ld a r0_2 = a := View.ld_unit_zero (S := S64x64) whole2 _ a
/-- A load of a whole array reads it: a row of column values. -/
theorem ld3 (a : Vec Ideal S64 .f32) : View.ld a r0_3 = a := View.ld_unit_zero (S := S64) whole1 _ a
/-- A load of a whole array reads it: the recurrent weights. -/
theorem ld5 (a : Vec Ideal S256x64 .f32) : View.ld a r0_5 = a := View.ld_unit_zero (S := S256x64) whole2 _ a
/-- A load of a whole array reads it: the gates' biases. -/
theorem ld7 (a : Vec Ideal S256 .f32) : View.ld a r0_7 = a := View.ld_unit_zero (S := S256) whole1 _ a

/-- The kernel's features are the two graph layers. -/
theorem kX_eq : kX A = k0_pay4 (F := Ideal) (k0_pay3 (F := Ideal) A.E (k0_pay1 (F := Ideal) A.E) (k0_pay2 (F := Ideal) A.E A.x A.W1 A.b1 A.g1) A.be1 A.W2 A.b2 A.g2 A.be2)
    (Scalar.ofBits .f32 0x3C23D70A#32) := by
  unfold kX k0_pay42 k0_pay41
  simp only [ld0, ld1, ld2, ld3]

/-- The first half of the input weights, loaded. -/
theorem ldWi_lo (l : Fin 256) (k : Fin 64) : View.ld A.Wi r0_4 (ix2 l k) = A.Wi (ix2 l (lo k)) := by
  unfold lo
  pointwise []

/-- The second half of the input weights, loaded. -/
theorem ldWi_hi (l : Fin 256) (k : Fin 64) : View.ld A.Wi r0_6 (ix2 l k) = A.Wi (ix2 l (hi k)) := by
  unfold hi
  pointwise []

/-- The first half of the closing weights, loaded. -/
theorem ldL1_lo (k l : Fin 64) : View.ld A.L1 r0_8 (ix2 k l) = A.L1 (ix2 (lo k) l) := by
  unfold lo
  pointwise []

/-- The second half of the closing weights, loaded. -/
theorem ldL1_hi (k l : Fin 64) : View.ld A.L1 r0_9 (ix2 k l) = A.L1 (ix2 (hi k) l) := by
  unfold hi
  pointwise []

/-- The kernel's summed weights at an entry. -/
theorem kW_apply (l : Fin 256) (k : Fin 64) : kW A (ix2 l k) = A.Wi (ix2 l (lo k)) + A.Wh (ix2 l k) := by
  unfold kW k0_pay43 k0_pay5
  rw [ld5, addf_at, ldWi_lo]

/-- The kernel's precomputed products at an entry. -/
theorem kM_apply (j : Fin 1024) (l : Fin 256) : kM A (ix2 j l) = ∑ k, ent (kX A) j k * A.Wi (ix2 l (hi k)) := by
  have hX : k0_pay4 (F := Ideal) (k0_pay41 (F := Ideal) A.E A.x A.W1 A.b1 A.g1 A.be1 A.W2 A.b2 A.g2 A.be2 A.Wi A.Wh A.bi A.bh A.L1 A.l1 A.L2 A.l2) (Scalar.ofBits .f32 0x3C23D70A#32) = kX A := rfl
  unfold kM k0_pay44 k0_pay6
  rw [hX]
  have hl := ldWi_hi A
  generalize View.ld A.Wi r0_6 = Wr at hl ⊢
  pointwise [hl]

/-- The kernel's summed biases at an entry. -/
theorem kB_apply (l : Fin 256) : kB A (ix2 0 l) = A.bi (ix1 l) + A.bh (ix1 l) := by
  unfold kB k0_pay45 k0_pay7
  rw [ld7, ld7]
  pointwise []

/-- The kernel's first gates are the biases. -/
theorem kInit_gates (l : Fin 256) : (kInit A).1 (ix2 0 l) = A.bi (ix1 l) + A.bh (ix1 l) := by
  have hb : k0_pay7 (F := Ideal) (View.ld A.bi r0_7) (View.ld A.bh r0_7) = kB A := rfl
  have hp : ∀ (w : FVec Ideal S256x64 .f32) (m : FVec Ideal S1024x256 .f32) (b : FVec Ideal S1x256 .f32),
      kerGates w m b (broadcast S1x64 (Scalar.ofBits .f32 0x00000000#32)) (broadcast S1x1024 (Scalar.ofBits .f32 0x00000000#32)) (broadcast S1x1 (Scalar.ofBits .f32 0x3F800000#32)) (ix2 0 l) = b (ix2 0 l) := by
    intro w m b
    unfold kerGates
    pointwise []
    simp
  exact (hp _ _ (kB A)).trans (kB_apply A l)

end Cert.Gnn

end
-- ==== Proof.RefRun.lean ====
/- The reference's run, cut into its graph layers, its ten steps and its closing network. -/
module

public import proofs.«01_k».proof.Proof.RefSet
public import proofs.«01_k».proof.Proof.Gen.ReferenceIdeal.Run

@[expose] public section

noncomputable section

namespace Cert.Gnn

open Idealize.ShloMosaic Cert.ReferenceIdeal Cert.ReferenceIdeal.Gen Cert.ReferenceIdeal.Value
open scoped BigOperators

/-- A state's new cell. -/
def rc (s : FVec Ideal S1x256 .f32 × FVec Ideal S1x64 .f32) : FVec Ideal S1x64 .f32 := refCell s.1 s.2

/-- A state's query. -/
def rq (s : FVec Ideal S1x256 .f32 × FVec Ideal S1x64 .f32) : FVec Ideal S1x64 .f32 := refQuery s.1 (rc s)

/-- The state after a step. -/
def rstep (x : FVec Ideal S1024x64 .f32) (Wi : FVec Ideal S256x128 .f32) (Wh : FVec Ideal S256x64 .f32) (bi bh : FVec Ideal S256 .f32)
    (s : FVec Ideal S1x256 .f32 × FVec Ideal S1x64 .f32) : FVec Ideal S1x256 .f32 × FVec Ideal S1x64 .f32 :=
  (refNext x Wi Wh bi bh (rq s), rc s)

variable (V : Valuation τ sig (Elt Ideal))

/-- The reference's features from the arrays it is launched with. -/
def feats : FVec Ideal S1024x64 .f32 :=
  refFeat2 (V (Proc.devRef .tc main_arg0)) (refFeat1 (V (Proc.devRef .tc main_arg0)) (V (Proc.devRef .tc main_arg1)) (V (Proc.devRef .tc main_arg2))
    (V (Proc.devRef .tc main_arg3)) (V (Proc.devRef .tc main_arg4)) (V (Proc.devRef .tc main_arg5)))
    (V (Proc.devRef .tc main_arg6)) (V (Proc.devRef .tc main_arg7)) (V (Proc.devRef .tc main_arg8)) (V (Proc.devRef .tc main_arg9))

/-- A step over the features and weights the reference is launched with. -/
def stepOf : FVec Ideal S1x256 .f32 × FVec Ideal S1x64 .f32 → FVec Ideal S1x256 .f32 × FVec Ideal S1x64 .f32 :=
  rstep (res_main_v163 V) (V (Proc.devRef .tc main_arg10)) (V (Proc.devRef .tc main_arg11)) (V (Proc.devRef .tc main_arg12)) (V (Proc.devRef .tc main_arg13))

/-- The sources of the edges. -/
theorem v3_eq : res_main_v3 V = srcs := rfl
/-- The targets of the edges. -/
theorem v7_eq : res_main_v7 V = tgts := rfl
/-- The weights of the edges. -/
theorem v10_eq : res_main_v10 V = wts (V (Proc.devRef .tc main_arg0)) := rfl
/-- The degrees. -/
theorem v18_eq : res_main_v18 V = refDeg (V (Proc.devRef .tc main_arg0)) := by
  unfold res_main_v18 refDeg wrapped
  rw [v7_eq, v10_eq]
/-- The degrees, computed again. -/
theorem v94_eq : res_main_v94 V = refDeg (V (Proc.devRef .tc main_arg0)) := by
  unfold res_main_v94 refDeg wrapped
  rw [v7_eq, v10_eq]
/-- The normalising factors. -/
theorem v24_eq : res_main_v24 V = refDinv (V (Proc.devRef .tc main_arg0)) := by
  unfold res_main_v24 refDinv
  rw [v18_eq]
/-- The normalising factors, computed again. -/
theorem v100_eq : res_main_v100 V = refDinv (V (Proc.devRef .tc main_arg0)) := by
  unfold res_main_v100 refDinv
  rw [v94_eq]
/-- The first convolution. -/
theorem v62_eq : res_main_v62 V = refConv (V (Proc.devRef .tc main_arg0)) (V (Proc.devRef .tc main_arg1)) (V (Proc.devRef .tc main_arg2)) (V (Proc.devRef .tc main_arg3)) := by
  unfold res_main_v62 refConv refMsgs refNorm wrapped
  rw [v3_eq, v7_eq, v10_eq, v24_eq]
/-- The first batch norm. -/
theorem v81_eq : res_main_v81 V = refBn (res_main_v62 V) (V (Proc.devRef .tc main_arg4)) (V (Proc.devRef .tc main_arg5)) := rfl
/-- The first layer. -/
theorem v86_eq : res_main_v86 V = refFeat1 (V (Proc.devRef .tc main_arg0)) (V (Proc.devRef .tc main_arg1)) (V (Proc.devRef .tc main_arg2))
    (V (Proc.devRef .tc main_arg3)) (V (Proc.devRef .tc main_arg4)) (V (Proc.devRef .tc main_arg5)) := by
  unfold res_main_v86 refFeat1 refLeaky
  rw [v81_eq, v62_eq]
/-- The second convolution. -/
theorem v138_eq : res_main_v138 V = refConv (V (Proc.devRef .tc main_arg0)) (res_main_v86 V) (V (Proc.devRef .tc main_arg6)) (V (Proc.devRef .tc main_arg7)) := by
  unfold res_main_v138 refConv refMsgs refNorm wrapped
  rw [v3_eq, v7_eq, v10_eq, v100_eq]
/-- The second layer before its leaky relu. -/
theorem v158_eq : res_main_v158 V = addf (refBn (res_main_v138 V) (V (Proc.devRef .tc main_arg8)) (V (Proc.devRef .tc main_arg9))) (res_main_v86 V) := rfl
/-- The features. -/
theorem v163_eq : res_main_v163 V = feats V := by
  unfold res_main_v163 feats refFeat2 refLeaky
  rw [v158_eq, v138_eq, v86_eq]

/-- The state of the first step. -/
def state0 : FVec Ideal S1x256 .f32 × FVec Ideal S1x64 .f32 :=
  (refGates0 (V (Proc.devRef .tc main_arg10)) (V (Proc.devRef .tc main_arg11)) (V (Proc.devRef .tc main_arg12)) (V (Proc.devRef .tc main_arg13)), refZeros)

/-- The first step's state is the program's. -/
theorem start_eq : state0 V = (res_main_v175 V, refZeros) := rfl
/-- The second step's state. -/
theorem step1_eq : stepOf V (res_main_v175 V, refZeros) = (res_main_v230 V, res_main_v201 V) := rfl
/-- The third step's state. -/
theorem step2_eq : stepOf V (res_main_v230 V, res_main_v201 V) = (res_main_v285 V, res_main_v256 V) := rfl
/-- The fourth step's state. -/
theorem step3_eq : stepOf V (res_main_v285 V, res_main_v256 V) = (res_main_v340 V, res_main_v311 V) := rfl
/-- The fifth step's state. -/
theorem step4_eq : stepOf V (res_main_v340 V, res_main_v311 V) = (res_main_v395 V, res_main_v366 V) := rfl
/-- The sixth step's state. -/
theorem step5_eq : stepOf V (res_main_v395 V, res_main_v366 V) = (res_main_v450 V, res_main_v421 V) := rfl
/-- The seventh step's state. -/
theorem step6_eq : stepOf V (res_main_v450 V, res_main_v421 V) = (res_main_v505 V, res_main_v476 V) := rfl
/-- The eighth step's state. -/
theorem step7_eq : stepOf V (res_main_v505 V, res_main_v476 V) = (res_main_v560 V, res_main_v531 V) := rfl
/-- The ninth step's state. -/
theorem step8_eq : stepOf V (res_main_v560 V, res_main_v531 V) = (res_main_v615 V, res_main_v586 V) := rfl
/-- The tenth step's state. -/
theorem step9_eq : stepOf V (res_main_v615 V, res_main_v586 V) = (res_main_v670 V, res_main_v641 V) := rfl

/-- The tenth step's state is nine steps from the first. -/
theorem steps_eq : (stepOf V)^[9] (state0 V) = (res_main_v670 V, res_main_v641 V) := by
  have h1 := (congrArg (stepOf V) (start_eq V)).trans (step1_eq V)
  have h2 := (congrArg (stepOf V) h1).trans (step2_eq V)
  have h3 := (congrArg (stepOf V) h2).trans (step3_eq V)
  have h4 := (congrArg (stepOf V) h3).trans (step4_eq V)
  have h5 := (congrArg (stepOf V) h4).trans (step5_eq V)
  have h6 := (congrArg (stepOf V) h5).trans (step6_eq V)
  have h7 := (congrArg (stepOf V) h6).trans (step7_eq V)
  have h8 := (congrArg (stepOf V) h7).trans (step8_eq V)
  exact (congrArg (stepOf V) h8).trans (step9_eq V)

/-- The hidden row of the closing network. -/
theorem v719_eq : res_main_v719 V = refHid (V (Proc.devRef .tc main_arg14)) (V (Proc.devRef .tc main_arg15))
    (refPair (res_main_v163 V) (rq (res_main_v670 V, res_main_v641 V))) := rfl

/-- What the reference's run leaves. -/
theorem result_eq :
    addf (F := Ideal) (φ := .f32) (Host.dotGeneral (φ₁ := .f32) (φ₂ := .f32) dot_S1x64_S64x16_S1x16_1_0_0_1_n_n none (select (cmpf .ogt (res_main_v719 V) (broadcastInDim S1x64 ![] bcast_S_S1x64 (constant S_ .f32 0x00000000#32))) (res_main_v719 V) (mulf (broadcastInDim S1x64 ![] bcast_S_S1x64 (constant S_ .f32 0x3C23D70A#32)) (res_main_v719 V))) (V (Proc.devRef .tc main_arg16))) (broadcastInDim S1x16 ![1] bcast_S16_S1x16_1 (V (Proc.devRef .tc main_arg17)))
      = refOut (V (Proc.devRef .tc main_arg16)) (V (Proc.devRef .tc main_arg17)) (refHid (V (Proc.devRef .tc main_arg14)) (V (Proc.devRef .tc main_arg15))
          (refPair (feats V) (rq ((stepOf V)^[9] (state0 V))))) := by
  have h := congrArg (fun t => refHid (V (Proc.devRef .tc main_arg14)) (V (Proc.devRef .tc main_arg15)) (refPair (res_main_v163 V) (rq t))) (steps_eq V)
  have h2 := (h.trans (v719_eq V).symm)
  rw [v163_eq] at h2
  exact (congrArg (refOut (V (Proc.devRef .tc main_arg16)) (V (Proc.devRef .tc main_arg17))) h2).symm

end Cert.Gnn

end
-- ==== Proof.Equation.lean ====
/- The kernel's function of its arguments is the reference's, where every degree is positive and the scales, shifts and input
   weights are real. -/
module

public import proofs.«01_k».proof.Proof.KerRun
public import proofs.«01_k».proof.Proof.RefRun

@[expose] public section

noncomputable section

namespace Cert.Gnn

open Idealize.ShloMosaic Cert.KernelIdeal Cert.KernelIdeal.Gen
open scoped BigOperators

/-- What the equation needs of the arguments. -/
structure Good (A : Args) : Prop where
  deg : ∀ j, 0 < deg A.E j
  g1 : ∀ k, IsR (A.g1 (ix1 k))
  be1 : ∀ k, IsR (A.be1 (ix1 k))
  g2 : ∀ k, IsR (A.g2 (ix1 k))
  be2 : ∀ k, IsR (A.be2 (ix1 k))
  Wi : ∀ l q, IsR (A.Wi (ix2 l q))

variable (A : Args)

/-- The reference's features over the kernel's arguments. -/
def rX : FVec Ideal S1024x64 .f32 := refFeat2 A.E (refFeat1 A.E A.x A.W1 A.b1 A.g1 A.be1) A.W2 A.b2 A.g2 A.be2

/-- The reference's step over the kernel's arguments. -/
def rS : State → State := rstep (rX A) A.Wi A.Wh A.bi A.bh

/-- The reference's first state over the kernel's arguments. -/
def rInit : State := (refGates0 A.Wi A.Wh A.bi A.bh, refZeros)

/-- The kernel's features are the reference's. -/
theorem kX_ref (h : Good A) : kX A = rX A := (kX_eq A).trans (feat_eq _ _ _ _ _ _ _ _ _ _ h.deg)

/-- The features are real. -/
theorem kX_real (h : Good A) (j : Fin 1024) (k : Fin 64) : IsR (ent (kX A) j k) := by
  rw [kX_ref A h]
  exact feat_real _ _ _ _ _ _ _ _ _ _ h.deg h.g1 h.be1 h.g2 h.be2 j k

/-- The kernel's new cell is the reference's. -/
theorem kc_eq (s : State) : kc s = rc s := cell_eq _ _

/-- The kernel's query is the reference's. -/
theorem kq_eq (s : State) : kq s = rq s := by
  unfold kq rq
  rw [query_eq, kc_eq]

/-- A query is real. -/
theorem kq_real (s : State) (k : Fin 64) : IsR (row (kq s) k) := by
  rw [kq_eq]
  exact refQuery_real _ _ k

/-- The kernel's step is the reference's. -/
theorem kS_eq (h : Good A) : kS A = rS A := by
  funext s
  unfold kS rS kstep rstep
  rw [next_eq (kX A) (kW A) (kM A) (kB A) A.Wi A.Wh A.bi A.bh (kq s) (kW_apply A) (kM_apply A) (kB_apply A) (kX_real A h) (kq_real s) h.Wi,
    kX_ref A h, kq_eq, kc_eq]

/-- The kernel's first state is the reference's. -/
theorem kInit_eq : kInit A = rInit A := by
  refine Prod.ext (row_ext fun l => ?_) (row_ext fun k => ?_)
  · exact (kInit_gates A l).trans (refGates0_apply _ _ _ _ l).symm
  · show Scalar.ofBits .f32 0x00000000#32 = refZeros (ix2 0 k)
    pointwise []

/-- The kernel's result is the reference's. -/
theorem kernel_eq (h : Good A) :
    kerFin (kX A) (View.ld A.L1 r0_8) (View.ld A.L1 r0_9) A.l1 A.L2 A.l2 (kq ((kS A)^[9] (kInit A)))
      = refOut A.L2 A.l2 (refHid A.L1 A.l1 (refPair (rX A) (rq ((rS A)^[9] (rInit A))))) := by
  rw [fin_eq (kX A) _ _ A.L1 A.l1 A.L2 A.l2 _ (ldL1_lo A) (ldL1_hi A) (kX_real A h) (kq_real _), kX_ref A h, kS_eq A h, kInit_eq, kq_eq]

end Cert.Gnn

end
-- ==== Proof.Precondition.lean ====
/- The precondition read at an index: every degree is positive, and the scales, shifts and input weights are real. -/
module

public import proofs.«01_k».proof.Defs
public import proofs.«01_k».proof.Proof.Gen.Pre_well_posed
public import proofs.«01_k».proof.Proof.Equation

@[expose] public section

noncomputable section

namespace Cert.Gnn

open Idealize.ShloMosaic
open scoped BigOperators

/-- A number below infinity in absolute value is real. -/
theorem IsR.of_abs {x : EReal} (h : Max.max x (-x) < ⊤) : IsR x :=
  IsR.of_ne (fun h' => absurd h (by rw [h']; simp)) (fun h' => absurd h (by rw [h']; simp))

/-- A decision recorded as a true bit holds. -/
theorem of_bit {p : Prop} [Decidable p] (h : BitVec.ofBool (decide p) = 1#1) : p := by
  by_contra hp
  rw [decide_eq_false hp] at h
  exact absurd h (by decide)

/-- Entries whose absolute values compare below infinity are real. -/
theorem real_of_cmp {S : Shape} (v : FVec Ideal S .f32) (t : FVec Ideal S .f32) (i : S.Idx) (ht : t i = (⊤ : EReal))
    (h : cmpf .olt (Host.absf v) t = fun _ => 1#1) : IsR (v i) := by
  have h' : BitVec.ofBool (decide (Max.max (v i : EReal) (-(v i : EReal)) < t i)) = 1#1 := congrFun h i
  have h2 := of_bit h'
  rw [ht] at h2
  exact IsR.of_abs h2

section
open Cert.Pre_well_posed Cert.Pre_well_posed.Gen

/-- Degrees that compare above zero are positive. -/
theorem deg_of_cmp (E : FVec Ideal S1024x1024 .f32) (h1 : S1024x1024.ReducesTo [0] S1024) (h2 : 0 < S_.numel)
    (h3 : S_.BroadcastsInDim S1024 (![] : Fin 0 → Fin S1024.rank))
    (h : cmpf .ogt (addf (Host.reduceAdd E (constant S_ .f32 0x00000000#32) h1 h2) (broadcastInDim S1024 ![] h3 (constant S_ .f32 0x3F800000#32)))
      (broadcastInDim S1024 ![] h3 (constant S_ .f32 0x00000000#32)) = fun _ => 1#1) (j : Fin 1024) : 0 < deg E j := by
  have hd : addf (Host.reduceAdd E (constant S_ .f32 0x00000000#32) h1 h2) (broadcastInDim S1024 ![] h3 (constant S_ .f32 0x3F800000#32)) (ix1 j) = deg E j := by
    unfold deg
    pointwise []
  have hz : broadcastInDim S1024 ![] h3 (constant (F := Ideal) S_ .f32 0x00000000#32) (ix1 j) = (0 : EReal) := by
    pointwise []
  have h' : BitVec.ofBool (decide (broadcastInDim S1024 ![] h3 (constant (F := Ideal) S_ .f32 0x00000000#32) (ix1 j)
    < addf (Host.reduceAdd E (constant S_ .f32 0x00000000#32) h1 h2) (broadcastInDim S1024 ![] h3 (constant S_ .f32 0x3F800000#32)) (ix1 j))) = 1#1 := congrFun h (ix1 j)
  have h4 := of_bit h'
  rw [hd, hz] at h4
  exact h4

end

/-- The arguments a device of the kernel is launched with. -/
def argsOf (m : (ℓ : Loc Cert.KernelIdeal.nD Cert.KernelIdeal.τ Cert.KernelIdeal.sig) → Buf (Elt Ideal) ℓ) (c : Dev Cert.KernelIdeal.nD) : Args where
  E := m ((c.tc : Thread Cert.KernelIdeal.nD Cert.KernelIdeal.τ).loc Cert.KernelIdeal.main_arg0)
  x := m ((c.tc : Thread Cert.KernelIdeal.nD Cert.KernelIdeal.τ).loc Cert.KernelIdeal.main_arg1)
  W1 := m ((c.tc : Thread Cert.KernelIdeal.nD Cert.KernelIdeal.τ).loc Cert.KernelIdeal.main_arg2)
  b1 := m ((c.tc : Thread Cert.KernelIdeal.nD Cert.KernelIdeal.τ).loc Cert.KernelIdeal.main_arg3)
  g1 := m ((c.tc : Thread Cert.KernelIdeal.nD Cert.KernelIdeal.τ).loc Cert.KernelIdeal.main_arg4)
  be1 := m ((c.tc : Thread Cert.KernelIdeal.nD Cert.KernelIdeal.τ).loc Cert.KernelIdeal.main_arg5)
  W2 := m ((c.tc : Thread Cert.KernelIdeal.nD Cert.KernelIdeal.τ).loc Cert.KernelIdeal.main_arg6)
  b2 := m ((c.tc : Thread Cert.KernelIdeal.nD Cert.KernelIdeal.τ).loc Cert.KernelIdeal.main_arg7)
  g2 := m ((c.tc : Thread Cert.KernelIdeal.nD Cert.KernelIdeal.τ).loc Cert.KernelIdeal.main_arg8)
  be2 := m ((c.tc : Thread Cert.KernelIdeal.nD Cert.KernelIdeal.τ).loc Cert.KernelIdeal.main_arg9)
  Wi := m ((c.tc : Thread Cert.KernelIdeal.nD Cert.KernelIdeal.τ).loc Cert.KernelIdeal.main_arg10)
  Wh := m ((c.tc : Thread Cert.KernelIdeal.nD Cert.KernelIdeal.τ).loc Cert.KernelIdeal.main_arg11)
  bi := m ((c.tc : Thread Cert.KernelIdeal.nD Cert.KernelIdeal.τ).loc Cert.KernelIdeal.main_arg12)
  bh := m ((c.tc : Thread Cert.KernelIdeal.nD Cert.KernelIdeal.τ).loc Cert.KernelIdeal.main_arg13)
  L1 := m ((c.tc : Thread Cert.KernelIdeal.nD Cert.KernelIdeal.τ).loc Cert.KernelIdeal.main_arg14)
  l1 := m ((c.tc : Thread Cert.KernelIdeal.nD Cert.KernelIdeal.τ).loc Cert.KernelIdeal.main_arg15)
  L2 := m ((c.tc : Thread Cert.KernelIdeal.nD Cert.KernelIdeal.τ).loc Cert.KernelIdeal.main_arg16)
  l2 := m ((c.tc : Thread Cert.KernelIdeal.nD Cert.KernelIdeal.τ).loc Cert.KernelIdeal.main_arg17)

attribute [local instance] Cert.Pre_well_posed.Gen.facts

/-- A launch meeting the precondition has arguments as the equation needs them. -/
theorem good_of_pre (m : (ℓ : Loc Cert.KernelIdeal.nD Cert.KernelIdeal.τ Cert.KernelIdeal.sig) → Buf (Elt Ideal) ℓ)
    (h : Cert.Pre_KernelIdeal_well_posed m) (c : Dev Cert.KernelIdeal.nD) : Good (argsOf m c) := by
  obtain ⟨h0, h1, h2, h3, h4, h5⟩ := h c
  exact
    { deg := deg_of_cmp _ _ _ _ h0
      g1 := fun k => real_of_cmp _ _ (ix1 k) lit_top h1
      be1 := fun k => real_of_cmp _ _ (ix1 k) lit_top h2
      g2 := fun k => real_of_cmp _ _ (ix1 k) lit_top h3
      be2 := fun k => real_of_cmp _ _ (ix1 k) lit_top h4
      Wi := fun l q => real_of_cmp _ _ (ix2 l q) lit_top h5 }

end Cert.Gnn

end
-- ==== Proof.lean ====
/- The claim: the kernel's frames, and its result's equality with the reference's under the precondition. -/
module

public import proofs.«01_k».proof.Defs
public import proofs.«01_k».proof.Proof.Gen.Kernel.Frame
public import proofs.«01_k».proof.Proof.Gen.KernelIdeal.Value
public import proofs.«01_k».proof.Proof.Gen.Pre_well_posed
public import proofs.«01_k».proof.Proof.Gen.ReferenceIdeal.Run
public import Idealize.ShloMosaic.Adequacy
public import Idealize.ShloMosaic.Init
public import Idealize.ShloMosaic.Lib.Quiescent
public import proofs.«01_k».proof.Proof.Precondition

@[expose] public section

noncomputable section

namespace Cert.Proof

open Idealize.ShloMosaic Idealize.ShloMosaic.StableHlo Idealize.SL.Sem

/-- The reference leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] Cert.Pre_well_posed.Gen.facts

/-- The reference leaves its arguments as they were, under the precondition too. -/
theorem quiescent_ReferenceIdeal_pre_well_posed : quiescent_ReferenceIdeal_pre_well_posed := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Gnn in
/-- The reference's result over the arguments the kernel is launched with. -/
theorem result_of_agree (V : Valuation Cert.ReferenceIdeal.τ Cert.ReferenceIdeal.sig (Elt Ideal)) (A : Args)
    (h0 : V (Proc.devRef .tc Cert.ReferenceIdeal.main_arg0) = A.E) (h1 : V (Proc.devRef .tc Cert.ReferenceIdeal.main_arg1) = A.x)
    (h2 : V (Proc.devRef .tc Cert.ReferenceIdeal.main_arg2) = A.W1) (h3 : V (Proc.devRef .tc Cert.ReferenceIdeal.main_arg3) = A.b1)
    (h4 : V (Proc.devRef .tc Cert.ReferenceIdeal.main_arg4) = A.g1) (h5 : V (Proc.devRef .tc Cert.ReferenceIdeal.main_arg5) = A.be1)
    (h6 : V (Proc.devRef .tc Cert.ReferenceIdeal.main_arg6) = A.W2) (h7 : V (Proc.devRef .tc Cert.ReferenceIdeal.main_arg7) = A.b2)
    (h8 : V (Proc.devRef .tc Cert.ReferenceIdeal.main_arg8) = A.g2) (h9 : V (Proc.devRef .tc Cert.ReferenceIdeal.main_arg9) = A.be2)
    (h10 : V (Proc.devRef .tc Cert.ReferenceIdeal.main_arg10) = A.Wi) (h11 : V (Proc.devRef .tc Cert.ReferenceIdeal.main_arg11) = A.Wh)
    (h12 : V (Proc.devRef .tc Cert.ReferenceIdeal.main_arg12) = A.bi) (h13 : V (Proc.devRef .tc Cert.ReferenceIdeal.main_arg13) = A.bh)
    (h14 : V (Proc.devRef .tc Cert.ReferenceIdeal.main_arg14) = A.L1) (h15 : V (Proc.devRef .tc Cert.ReferenceIdeal.main_arg15) = A.l1)
    (h16 : V (Proc.devRef .tc Cert.ReferenceIdeal.main_arg16) = A.L2) (h17 : V (Proc.devRef .tc Cert.ReferenceIdeal.main_arg17) = A.l2) :
    refOut (V (Proc.devRef .tc Cert.ReferenceIdeal.main_arg16)) (V (Proc.devRef .tc Cert.ReferenceIdeal.main_arg17))
      (refHid (V (Proc.devRef .tc Cert.ReferenceIdeal.main_arg14)) (V (Proc.devRef .tc Cert.ReferenceIdeal.main_arg15))
        (refPair (feats V) (rq ((stepOf V)^[9] (state0 V)))))
      = refOut A.L2 A.l2 (refHid A.L1 A.l1 (refPair (rX A) (rq ((rS A)^[9] (rInit A))))) := by
  have hx : feats V = rX A := by
    unfold feats rX
    rw [h0, h1, h2, h3, h4, h5, h6, h7, h8, h9]
  have hs : stepOf V = rS A := by
    unfold stepOf rS
    rw [v163_eq, hx, h10, h11, h12, h13]
  have hi : state0 V = rInit A := by
    unfold state0 rInit
    rw [h10, h11, h12, h13]
  rw [hx, hs, hi, h14, h15, h16, h17]

/-- Under the precondition the kernel leaves what the reference leaves. -/
theorem algebraic_KernelIdeal_ReferenceIdeal_pre_well_posed : algebraic_KernelIdeal_ReferenceIdeal_pre_well_posed := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8, h9, h10, h11, h12, h13, h14, h15, h16, h17⟩ := hagree c
  refine (h c).1.trans ((Cert.Gnn.result_eq (launchContents m' c)).trans ?_)
  refine (result_of_agree (launchContents m' c) (Cert.Gnn.argsOf m c) h0 h1 h2 h3 h4 h5 h6 h7 h8 h9 h10 h11 h12 h13 h14 h15 h16 h17).trans ?_
  exact ((Cert.Gnn.G18_eq (Cert.Gnn.argsOf m c)).trans (Cert.Gnn.kernel_eq _ (Cert.Gnn.good_of_pre m hpre c))).symm

/-- Everything claimed of the kernel. -/
theorem claim : Cert.Claim := ⟨Cert.Kernel.Gen.facts, Cert.KernelIdeal.Gen.facts, Cert.ReferenceIdeal.Gen.facts, Cert.Pre_well_posed.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_well_posed, (trivial : preserves_Kernel_KernelIdeal), algebraic_KernelIdeal_ReferenceIdeal_pre_well_posed⟩

end Cert.Proof

end
